-- ==== Defs.lean ====
def Pre_Kernel [hPre_actions_in_range : Cert.Pre_actions_in_range.Facts] (m : (ℓ : Loc Cert.Kernel.nD Cert.Kernel.τ Cert.Kernel.sig) → Buf (Elt Bits) ℓ) : Prop :=
  ∀ c : Dev Cert.Kernel.nD,
    (Cert.Pre_actions_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_actions_in_range : Cert.Pre_actions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_actions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_actions_in_range : Cert.Pre_actions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_actions_in_range : Cert.Pre_actions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_actions_in_range : Cert.Pre_actions_in_range.Facts) (hPre_finite_logits : Cert.Pre_finite_logits.Facts),
    quiescent_Kernel (hKernel := hKernel) (hPre_actions_in_range := hPre_actions_in_range)
    ∧ quiescent_KernelIdeal (hKernelIdeal := hKernelIdeal) (hPre_actions_in_range := hPre_actions_in_range)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_actions_in_range.lean ====
abbrev S128x100000 : Shape := ⟨2, ![128, 100000]⟩
abbrev S128x1 : Shape := ⟨2, ![128, 1]⟩
abbrev S_ : Shape := ⟨0, ![]⟩

class Facts : Prop where
  bcast_S_S128x1 : S_.BroadcastsInDim S128x1 (![] : Fin 0 → Fin S128x1.rank)

variable [Facts]

def fn {F : FTy → Type} [FloatOps F] (main_arg0 : FVec F S128x100000 .f32) (main_arg1 : IVec S128x1 32) : IVec S128x1 1 :=
  let main_c : IVec S_ 32 := constantI S_ 32 0#32
  let main_v0 : IVec S128x1 32 := broadcastInDim S128x1 ![] bcast_S_S128x1 main_c
  let main_v1 : IVec S128x1 1 := cmpi .sge main_arg1 main_v0
  let main_c_0 : IVec S_ 32 := constantI S_ 32 100000#32
  let main_v2 : IVec S128x1 32 := broadcastInDim S128x1 ![] bcast_S_S128x1 main_c_0
  let main_v3 : IVec S128x1 1 := cmpi .slt main_arg1 main_v2
  let main_v4 : IVec S128x1 1 := andi main_v1 main_v3
  main_v4
-- ==== Pre_finite_logits.lean ====
abbrev S128x100000 : Shape := ⟨2, ![128, 100000]⟩
abbrev S128x1 : Shape := ⟨2, ![128, 1]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S128x100000 .f32) (main_arg1 : IVec S128x1 32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_c_0 : IVec S_ 32 := constantI S_ 32 0#32
  let main_v4 : IVec S128x1 32 := broadcastInDim S128x1 ![] bcast_S_S128x1 main_c_0
  let main_v5 : IVec S128x1 1 := cmpi .sge main_arg1 main_v4
  let main_c_1 : IVec S_ 32 := constantI S_ 32 100000#32
  let main_v6 : IVec S128x1 32 := broadcastInDim S128x1 ![] bcast_S_S128x1 main_c_1
  let main_v7 : IVec S128x1 1 := cmpi .slt main_arg1 main_v6
  let main_v8 : IVec S128x1 1 := andi main_v5 main_v7
  let main_c_2 : IVec S_ 1 := constantI S_ 1 1#1
  let main_v9 : IVec S_ 1 := (fun x v => Host.reduce IntOp.andi x v reducesTo_S128x1_S_d0_1 h_S_) main_v8 main_c_2
  let main_v10 : IVec S_ 1 := andi main_v3 main_v9
  main_v10
-- ==== Kernel.lean ====
abbrev S128x100000 : Shape := ⟨2, ![128, 100000]⟩
abbrev S128x1 : Shape := ⟨2, ![128, 1]⟩
abbrev S12800000 : Shape := ⟨1, ![12800000]⟩
abbrev S128 : Shape := ⟨1, ![128]⟩
abbrev S_ : Shape := ⟨0, ![]⟩
abbrev S16 : Shape := ⟨1, ![16]⟩
abbrev S16x100000 : Shape := ⟨2, ![16, 100000]⟩
abbrev S16x1 : Shape := ⟨2, ![16, 1]⟩
abbrev S16x128 : Shape := ⟨2, ![16, 128]⟩
abbrev S16x32 : Shape := ⟨2, ![16, 32]⟩
abbrev S16x96 : Shape := ⟨2, ![16, 96]⟩

abbrev nBuf : Table → Nat
  | .hbm => 8
  | .local .tc .vmem => 8
  | .local .scVector .vmem => 3
  | _ => 0

abbrev bufTy : (tb : Table) → Fin (nBuf tb) → BufTy
  | .hbm, ⟨0, _⟩ => ⟨S128x100000, .f32⟩
  | .hbm, ⟨1, _⟩ => ⟨S128x1, .i32⟩
  | .hbm, ⟨2, _⟩ => ⟨S12800000, .f32⟩
  | .hbm, ⟨3, _⟩ => ⟨S128, .i32⟩
  | .hbm, ⟨4, _⟩ => ⟨S128, .f32⟩
  | .hbm, ⟨5, _⟩ => ⟨S128x1, .f32⟩
  | .hbm, ⟨6, _⟩ => ⟨S128x1, .f32⟩
  | .hbm, ⟨7, _⟩ => ⟨S128x1, .i32⟩
  | .local .tc .vmem, ⟨0, _⟩ => ⟨S16x100000, .f32⟩
  | .local .tc .vmem, ⟨1, _⟩ => ⟨S16x100000, .f32⟩
  | .local .tc .vmem, ⟨2, _⟩ => ⟨S16x1, .f32⟩
  | .local .tc .vmem, ⟨3, _⟩ => ⟨S16x1, .f32⟩
  | .local .tc .vmem, ⟨4, _⟩ => ⟨S16x1, .f32⟩
  | .local .tc .vmem, ⟨5, _⟩ => ⟨S16x1, .f32⟩
  | .local .tc .vmem, ⟨6, _⟩ => ⟨S16x1, .i32⟩
  | .local .tc .vmem, ⟨7, _⟩ => ⟨S16x1, .i32⟩
  | .local .scVector .vmem, ⟨0, _⟩ => ⟨S128, .i32⟩
  | .local .scVector .vmem, ⟨1, _⟩ => ⟨S128, .i32⟩
  | .local .scVector .vmem, ⟨2, _⟩ => ⟨S128, .f32⟩
  | _, _ => ⟨S128x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

abbrev grid1 : Pipeline.Grid := ⟨1, ![8], ![false]⟩

@[reducible] def k1_t1_loop : Scf.Loop 32 :=
  let c0_i32_1 : BitVec 32 := 0#32
  let c781_i32 : BitVec 32 := 781#32
  let v4 : BitVec 32 := Scalar.addi c0_i32_1 c781_i32
  let c1_i32 : BitVec 32 := 1#32
  ⟨c0_i32_1, v4, c1_i32⟩
def k1_mult1 (k1_t1 : Fin k1_t1_loop.trips) : BitVec 32 :=
  let c0_i32_1 : BitVec 32 := 0#32
  let c1_i32 : BitVec 32 := 1#32
  let arg5 : BitVec 32 := Scf.iv c0_i32_1 c1_i32 k1_t1
  let c128_i32_16 : BitVec 32 := 128#32
  let v38 : BitVec 32 := Scalar.muli arg5 c128_i32_16
  v38
def k1_off1 (k1_t1 : Fin k1_t1_loop.trips) : Fin 2 → Nat :=
  let c0_17 : Index := 0#32
  let c0_i32_1 : BitVec 32 := 0#32
  let c1_i32 : BitVec 32 := 1#32
  let arg5 : BitVec 32 := Scf.iv c0_i32_1 c1_i32 k1_t1
  let c128_i32_16 : BitVec 32 := 128#32
  let v38 : BitVec 32 := Scalar.muli arg5 c128_i32_16
  let v39 : BitVec 32 := v38
  let v40 : Index := Scalar.indexCast v39
  ![0, v40.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S128x1 : Shape := ⟨2, ![128, 1]⟩
abbrev S_ : Shape := ⟨0, ![]⟩
abbrev S128 : Shape := ⟨1, ![128]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S_, .f32⟩
  | .hbm, ⟨3, _⟩ => ⟨S128, .f32⟩
  | .hbm, ⟨4, _⟩ => ⟨S128x1, .f32⟩
  | .hbm, ⟨5, _⟩ => ⟨S128x100000, .f32⟩
  | .hbm, ⟨6, _⟩ => ⟨S128x100000, .f32⟩
  | .hbm, ⟨7, _⟩ => ⟨S128x100000, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x100000, .f32⟩
  | .hbm, ⟨14, _⟩ => ⟨S128x100000, .f32⟩
  | .hbm, ⟨15, _⟩ => ⟨S_, .i32⟩
  | .hbm, ⟨16, _⟩ => ⟨S128x1, .i32⟩
  | .hbm, ⟨17, _⟩ => ⟨S128x1, .i1⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S128x1, .i32⟩
  | .hbm, ⟨22, _⟩ => ⟨S128x1x1, .i32⟩
  | .hbm, ⟨23, _⟩ => ⟨S1, .i32⟩
  | .hbm, ⟨24, _⟩ => ⟨S_, .i32⟩
  | .hbm, ⟨25, _⟩ => ⟨S128x1x1, .i32⟩
  | .hbm, ⟨26, _⟩ => ⟨S128x1x1, .i1⟩
  | .hbm, ⟨27, _⟩ => ⟨S1x1x1, .i32⟩
  | .hbm, ⟨28, _⟩ => ⟨S128x1x1, .i32⟩
  | .hbm, ⟨29, _⟩ => ⟨S128x1x1, .i1⟩
  | .hbm, ⟨30, _⟩ => ⟨S128x1x1, .i1⟩
  | .hbm, ⟨31, _⟩ => ⟨S_, .i1⟩
  | .hbm, ⟨32, _⟩ => ⟨S128x1, .i1⟩
  | .hbm, ⟨33, _⟩ => ⟨S128x1, .f32⟩
  | .hbm, ⟨34, _⟩ => ⟨S_, .f32⟩
  | .hbm, ⟨35, _⟩ => ⟨S128x1, .f32⟩
  | .hbm, ⟨36, _⟩ => ⟨S128x1, .f32⟩
  | .hbm, ⟨37, _⟩ => ⟨S128x100000, .f32⟩
  | .hbm, ⟨38, _⟩ => ⟨S128x100000, .i32⟩
  | .hbm, ⟨39, _⟩ => ⟨S_, .f32⟩
  | .hbm, ⟨40, _⟩ => ⟨S_, .i32⟩
  | .hbm, ⟨41, _⟩ => ⟨S128, .f32⟩
  | .hbm, ⟨42, _⟩ => ⟨S128, .i32⟩
  | .hbm, ⟨43, _⟩ => ⟨S128x1, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v11 : Ref sig .tc := ⟨.hbm, 36, rfl⟩
abbrev main_v12 : Ref sig .tc := ⟨.hbm, 37, rfl⟩
abbrev main_call1_v0 : Ref sig .tc := ⟨.hbm, 38, rfl⟩
abbrev main_call1_cst : Ref sig .tc := ⟨.hbm, 39, rfl⟩
abbrev main_call1_c : Ref sig .tc := ⟨.hbm, 40, rfl⟩
abbrev main_call1_v1_0 : Ref sig .tc := ⟨.hbm, 41, rfl⟩
abbrev main_v13 : Ref sig .tc := ⟨.hbm, 42, rfl⟩
abbrev main_v14 : Ref sig .tc := ⟨.hbm, 43, rfl⟩

abbrev nD : Nat := 1
abbrev τ : Topo := Topo.v7x

variable {F : FTy → Type} [FloatOps F]
-- ==== Proof.Setup.lean ====
/-
  The set-up shared by the run's modules: the program as the SparseCore launch theorem sees it, the ghost state, the
  buffers of the program, and what the SparseCore call leaves in its result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import Idealize.ShloMosaic.Lib.ValueIdxCoords
public import Idealize.ShloMosaic.Lib.ValueLayoutCasts
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_arg0
abbrev aLoc (d : Dev nD) : Loc nD τ sig := (SparseCore.T d).loc main_arg1
abbrev tabLoc (d : Dev nD) : Loc nD τ sig := (SparseCore.T d).loc main_v0
abbrev actLoc (d : Dev nD) : Loc nD τ sig := (SparseCore.T d).loc main_v1
abbrev gLoc (d : Dev nD) : Loc nD τ sig := (SparseCore.T d).loc main_v2
abbrev gcLoc (d : Dev nD) : Loc nD τ sig := (SparseCore.T d).loc main_v3
abbrev lpLoc (d : Dev nD) : Loc nD τ sig := (SparseCore.T d).loc main_v4_0
abbrev moLoc (d : Dev nD) : Loc nD τ sig := (SparseCore.T d).loc main_v4_1

/-- What the gather leaves: row `r` of its result is the flat table at `r * 100000 + act[r]`. (The remainder only makes
    the index total; the actions in range, it is idle.) -/
def gOut (tab : S12800000.Idx → Elt F .f32) (act : S128.Idx → BitVec 32) : S128.Idx → Elt F .f32 :=
  fun x => tab (ix1 ⟨((x 0).val * 100000 + (act x).toNat) % 12800000, Nat.mod_lt _ (by decide)⟩)

/-! The launch memory as the program's values: the flat table, the flat actions, what the gather makes of them. -/

variable (m : (ℓ : Loc nD τ sig) → Buf (Elt F) ℓ)

def tabOf (d : Dev nD) : S12800000.Idx → Elt F .f32 :=
  shapeCast S12800000 (m (xLoc d) : S128x100000.Idx → Elt F .f32) shapeCasts_S128x100000_S12800000
def actOf (d : Dev nD) : S128.Idx → BitVec 32 :=
  shapeCast S128 (m (aLoc d) : S128x1.Idx → BitVec 32) shapeCasts_S128x1_S128

/-- What the run asks of the launch memory: every action names a column. -/
def PreOK : Prop := ∀ (d : Dev nD) (j : S128x1.Idx), ((m (aLoc d) : S128x1.Idx → BitVec 32) j).toNat < 100000

theorem actOf_lt (h : PreOK m) (d : Dev nD) (x : S128.Idx) : (actOf m d x).toNat < 100000 := h d _

/-- What the gather's result holds after the SparseCore call. -/
def gOf (d : Dev nD) : S128.Idx → Elt F .f32 := gOut (tabOf m d) (actOf m d)

end Cert.Proof.Run
-- ==== Proof.Tile.lean ====
/-
  The SparseCore call: subcore (0, 0) fetches the actions, forms the flat indices `row * 100000 + action` sixteen lanes
  at a time, gathers those words of the flat table and writes them out. The other subcores do nothing.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "tabV" => (Memref.whole Cert.KernelIdeal.main_v0_scv : Memref Cert.KernelIdeal.sig Kind.scVector Space.hbm Cert.KernelIdeal.S12800000 EltTy.f32)
local notation "actV" => (Memref.whole Cert.KernelIdeal.main_v1_scv : Memref Cert.KernelIdeal.sig Kind.scVector Space.hbm Cert.KernelIdeal.S128 EltTy.i32)
local notation "outV" => (Memref.whole Cert.KernelIdeal.main_v2_scv : Memref Cert.KernelIdeal.sig Kind.scVector Space.hbm Cert.KernelIdeal.S128 EltTy.f32)
local notation "aV" => (Memref.whole Cert.KernelIdeal.cc0_scratch0 : Memref Cert.KernelIdeal.sig Kind.scVector Space.vmem Cert.KernelIdeal.S128 EltTy.i32)
local notation "iV" => (Memref.whole Cert.KernelIdeal.cc0_scratch1 : Memref Cert.KernelIdeal.sig Kind.scVector Space.vmem Cert.KernelIdeal.S128 EltTy.i32)
local notation "gV" => (Memref.whole Cert.KernelIdeal.cc0_scratch2 : Memref Cert.KernelIdeal.sig Kind.scVector Space.vmem Cert.KernelIdeal.S128 EltTy.f32)

abbrev tabPts (d : Dev nD) (f : Buf (Elt F) (tabLoc d)) : sProp 𝕄 := tabLoc d ↦{fullShare} f
abbrev actPts (d : Dev nD) (f : Buf (Elt F) (actLoc d)) : sProp 𝕄 := actLoc d ↦{fullShare} f
abbrev gPts (d : Dev nD) (f : Buf (Elt F) (gLoc d)) : sProp 𝕄 := gLoc d ↦{fullShare} f

section Tile

variable (d : Dev nD) (L : grid0.Coords)

abbrev cV (L : grid0.Coords) : Fin τ.nSC := (L 0).castLE hcore0
abbrev jV (L : grid0.Coords) : Fin τ.nSub := (L 1).castLE hsub0

/-- All of the table, as the task addresses it. -/
abbrev tabAll : Memref sig .scVector .hbm S12800000 .f32 :=
  (tabV).slice (Rect.unit (s := S12800000) ![0] S12800000.size inb_S12800000_S12800000_0) (fun _ => rfl)

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

abbrev dref (r : Ref sig .scVector) (L : grid0.Coords) : DevRef τ sig := (Proc.scVector (cV L) (jV L)).devRef r

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (dref cc0_scratch0 L)).erase (dref cc0_scratch1 L)).erase (dref cc0_scratch2 L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dref cc0_scratch0 L) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := dref cc0_scratch1 L) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := dref cc0_scratch2 L) rfl⟩⟩)]

/-- The subcore that works: its guard. -/
theorem guard_iff : ∀ (a : Fin 2) (b : Fin 16),
    (Scalar.cmpi .ne (Scalar.extui (Scalar.cmpi .eq (Scalar.addi (Scalar.muli (BitVec.ofNat 32 b.val) 2#32) (BitVec.ofNat 32 a.val)) 0#32)) 0#32 = 1#1) = (a.val = 0 ∧ b.val = 0) := fun a b => propext (by revert a b; decide)

omit [FloatOps F] in
theorem pts_tab (f : Buf (Elt F) (tabLoc d)) : ((tabV).view.loc (V d (cV L) (jV L)) ↦{fullShare} f : sProp 𝕄) = tabPts d f := rfl
omit [FloatOps F] in
theorem pts_act (f : Buf (Elt F) (actLoc d)) : ((actV).view.loc (V d (cV L) (jV L)) ↦{fullShare} f : sProp 𝕄) = actPts d f := rfl
omit [FloatOps F] in
theorem pts_out (f : Buf (Elt F) (gLoc d)) : ((outV).view.loc (V d (cV L) (jV L)) ↦{fullShare} f : sProp 𝕄) = gPts d f := rfl
omit [FloatOps F] in
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
omit [FloatOps F] in
theorem pts_iV (f : Buf (Elt F) ((V d (cV L) (jV L)).loc cc0_scratch1)) :
    ((iV).view.loc (V d (cV L) (jV L)) ↦{fullShare} f : sProp 𝕄) = (V d (cV L) (jV L)).loc cc0_scratch1 ↦{fullShare} f := rfl
omit [FloatOps F] in
theorem pts_gV (f : Buf (Elt F) ((V d (cV L) (jV L)).loc cc0_scratch2)) :
    ((gV).view.loc (V d (cV L) (jV L)) ↦{fullShare} f : sProp 𝕄) = (V d (cV L) (jV L)).loc cc0_scratch2 ↦{fullShare} f := rfl

/-- The flat index of each row's action. -/
def flatIdx (act : S128.Idx → BitVec 32) : S128.Idx → BitVec 32 := fun x => BitVec.ofNat 32 ((x 0).val * 100000) + act x

theorem flatIdx_toNat (act : S128.Idx → BitVec 32) (hact : ∀ x, (act x).toNat < 100000) (x : S128.Idx) :
    (flatIdx act x).toNat = (x 0).val * 100000 + (act x).toNat := by
  have h0 : (x 0).val < 128 := (x 0).isLt
  have h := hact x
  unfold flatIdx
  rw [BitVec.toNat_add, BitVec.toNat_ofNat]
  omega

theorem flatIdx_lt (act : S128.Idx → BitVec 32) (hact : ∀ x, (act x).toNat < 100000) (x : S128.Idx) :
    (flatIdx act x).toNat < 12800000 := by
  have h0 : (x 0).val < 128 := (x 0).isLt
  have h := hact x
  rw [flatIdx_toNat act hact]
  omega

/-- One store's sixteen lanes are the flat indices of their rows. -/
theorem lane (act : S128.Idx → BitVec 32) (c : ℕ) (inb : ∀ a, (![c] : Fin 1 → ℕ) a + (![16] : Fin 1 → ℕ) a ≤ S128.size a) (x : S16.Idx) :
    addi (muli (addi (iota .scVector S16 32 [0] iota_S16_d0_w32_scVector) (broadcast S16 (BitVec.ofNat 32 c))) (broadcast S16 100000#32))
      (fun x => act ((Rect.unit (s := S128) ![c] ![16] inb).emb x)) x = flatIdx act ((Rect.unit (s := S128) ![c] ![16] inb).emb x) := by
  have h0 : (((Rect.unit (s := S128) ![c] ![16] inb).emb x) 0).val = c + (x 0).val := by
    show c + 1 * (x 0).val = _
    omega
  have hx : (x 0).val < 16 := (x 0).isLt
  have hc : c + 16 ≤ 128 := inb 0
  unfold flatIdx
  rw [h0]
  show (BitVec.ofNat 32 (0 * 16 + (x 0).val) + BitVec.ofNat 32 c) * 100000#32 + act _ = _
  refine congrArg (· + act _) ?_
  apply BitVec.eq_of_toNat_eq
  rw [BitVec.toNat_mul, BitVec.toNat_add, BitVec.toNat_ofNat, BitVec.toNat_ofNat, BitVec.toNat_ofNat, BitVec.toNat_ofNat]
  omega

theorem list_eq (act : S128.Idx → BitVec 32) (P : List (View.Piece (Elt F) S128 .i32)) (hc : ∀ y, ∃ p ∈ P, y ∈ p.1.set)
    (hp : ∀ p ∈ P, ∀ x : p.1.shape.Idx, p.2 x = flatIdx act (p.1.emb x)) :
    (iV).view.writes (Elt F) (iV).view.junk P = flatIdx act :=
  (View.read_whole (Val := Elt F) (cc0_scratch1 : Ref sig .scVector) _).symm.trans
    (funext fun y => View.read_writes_apply_of_pieces (v := (iV).view) (f := (iV).view.junk) (flatIdx act) P hp y (hc y))

/-- What the gather moves through that list: row `r` gets the table's word at `r * 100000 + act[r]`. -/
theorem gathered (tab : S12800000.Idx → Elt F .f32) (act : S128.Idx → BitVec 32) (hact : ∀ x, (act x).toNat < 100000)
    (hn : S128.numel = S128.size gathers_S12800000_S128.axis')
    (hin : ∀ x, ((iV).view.read (Elt F) (flatIdx act) x).toNat < S12800000.size gathers_S12800000_S128.axis) :
    SparseCore.gatherPayload gathers_S12800000_S128 (tabAll.view.read (Elt F) tab)
      (SparseCore.rows ((iV).view.read (Elt F) (flatIdx act)) hn hin) = gOut tab act := by
  funext x
  have hr : tabAll.view.read (Elt F) tab = tab := by
    funext j
    refine (View.read_apply _ _).trans ((cast_eq _ _).trans (congrArg tab (funext fun b => Fin.ext ?_)))
    have hb : b = (0 : Fin 1) := Subsingleton.elim (α := Fin 1) _ _
    subst hb
    show 0 + 1 * (j 0).val = (j 0).val
    omega
  unfold SparseCore.gatherPayload gOut
  rw [hr]
  refine congrArg tab (funext fun b => Fin.ext ?_)
  have hb : b = gathers_S12800000_S128.axis := Subsingleton.elim (α := Fin 1) _ _
  subst hb
  rw [Shape.Gathers.idx_axis]
  have hrow : S128.rowMajor.symm ((x gathers_S12800000_S128.axis').cast hn.symm) = x := by
    rw [Equiv.symm_apply_eq]
    exact Fin.ext (Shape.rowMajor_val_one x).symm
  show (flatIdx act (S128.rowMajor.symm ((x gathers_S12800000_S128.axis').cast hn.symm))).toNat
    = ((x 0).val * 100000 + (act x).toNat) % 12800000
  rw [hrow, Nat.mod_eq_of_lt ((flatIdx_toNat act hact x) ▸ flatIdx_lt act hact x), flatIdx_toNat act hact]

set_option maxHeartbeats 4000000 in
theorem tile_body (hF : (K (F := F)).Facts) (hL : (L 0).val = 0 ∧ (L 1).val = 0)
    (tab : S12800000.Idx → Elt F .f32) (act : S128.Idx → BitVec 32) (g0 : S128.Idx → Elt F .f32) (hact : ∀ x, (act x).toNat < 100000)
    (O : CellTallies nD τ sig (HIx 1)) (W : Waits sig (HIx 1)) (hO : ∀ g, O g none = 0) :
    iprop(levAts (K (F := F)).L (K (F := F)).lev ∗ emp
        ∗ (tabPts d tab ∗ actPts d act ∗ gPts d g0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L tabV (Memref.isWhole_whole _) actV (Memref.isWhole_whole _) outV (Memref.isWhole_whole _)
            aV (Memref.isWhole_whole _) iV (Memref.isWhole_whole _) gV (Memref.isWhole_whole _) cc0_scratch3 cc0_scoped0 cc0_scoped1)
          fun _ => iprop((tabPts d tab ∗ actPts d act ∗ gPts d (gOut tab act))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  iintro ⟨#Hlv, -, ⟨Ht, Ha, Ho⟩, ⟨⟨%fa, Hsa⟩, ⟨%fi, Hsi⟩, ⟨%fg, Hsg⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tab (F := F) d L _).symm) $$ Ht
  ihave Ha' := (Entails.of_eq (pts_act (F := F) d L _).symm) $$ Ha
  ihave Ho' := (Entails.of_eq (pts_out (F := F) d L _).symm) $$ Ho
  ihave Hsa' := (Entails.of_eq (pts_aV (F := F) d L _).symm) $$ Hsa
  ihave Hsi' := (Entails.of_eq (pts_iV (F := F) d L _).symm) $$ Hsi
  ihave Hsg' := (Entails.of_eq (pts_gV (F := F) d L _).symm) $$ Hsg
  have hg : Scalar.cmpi .ne (Scalar.extui (Scalar.cmpi .eq (Scalar.addi (Scalar.muli (BitVec.ofNat 32 (L 1).val) 2#32) (BitVec.ofNat 32 (L 0).val)) 0#32)) 0#32 = 1#1 :=
    (guard_iff (L 0) (L 1)) ▸ hL
  rw [dif_pos hg]
  sl_exec
  have hl : (iV).view.writes (Elt F) (iV).view.junk (tile_body.sl.Hsi'_8 d L act fa fi) = flatIdx act := by
    have hA : View.write (Elt F) (aV).view fa (tile_body.sl.dma0 act) Finset.univ = act := View.write_whole_univ _ _ _
    unfold tile_body.sl.Hsi'_8
    rw [hA]
    refine list_eq act _ ?_ ?_
    · exact View.cover_of_tiled _ ![16] rfl
    · intro p hp x
      simp only [List.mem_cons, List.not_mem_nil, or_false] at hp
      rcases hp with rfl | rfl | rfl | rfl | rfl | rfl | rfl | rfl
      · unfold tile_body.sl.v5; simp only [k0_pay1, k0_pay10, shapeCast_self]; exact lane act 112 _ x
      · unfold tile_body.sl.v5; simp only [k0_pay9, shapeCast_self]; exact lane act 96 _ x
      · unfold tile_body.sl.v5; simp only [k0_pay8, shapeCast_self]; exact lane act 80 _ x
      · unfold tile_body.sl.v5; simp only [k0_pay7, shapeCast_self]; exact lane act 64 _ x
      · simp only [k0_pay6, k0_pay5, shapeCast_self]; exact lane act 48 _ x
      · simp only [k0_pay4, shapeCast_self]; exact lane act 32 _ x
      · simp only [k0_pay3, shapeCast_self]; exact lane act 16 _ x
      · simp only [k0_pay2, shapeCast_self]; exact lane act 0 _ x
  rw [hl]
  have hin : ∀ x, ((iV).view.read (Elt F) (flatIdx act) x).toNat < S12800000.size gathers_S12800000_S128.axis :=
    fun x => flatIdx_lt act hact x
  sl_exec
  have hg0 : tile_body.sl.gather0 tab act hin = gOut tab act := gathered tab act hact _ hin
  have hout : View.write (Elt F) (outV).view g0 (tile_body.sl.dma0_1 d L tab act fg hin) Finset.univ = gOut tab act := by
    refine (View.write_whole_univ _ _ _).trans ?_
    rw [← hg0]
    exact View.read_writes_whole (gV).view fg (tile_body.sl.gather0 tab act hin)
  rw [hout]
  sl_step
  isplitl [Ht' Ha' Ho']
  · isplitl [Ht']; · iexact Ht'
    isplitl [Ha']; · iexact Ha'
    iexact Ho'
  isplitl [Hsa' Hsi' Hsg' Hbufs]
  · isplitl [Hsa']; · iexists _; iexact Hsa'
    isplitl [Hsi']; · iexists _; iexact Hsi'
    isplitl [Hsg']; · iexists _; iexact Hsg'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- Every other subcore does nothing. -/
theorem tile_idle (hL : ¬ ((L 0).val = 0 ∧ (L 1).val = 0)) (A B C : sProp 𝕄)
    (O : CellTallies nD τ sig (HIx 1)) (W : Waits sig (HIx 1)) :
    iprop(levAts (K (F := F)).L (K (F := F)).lev ∗ emp ∗ A ∗ B ∗ C ∗ owes (V d (cV L) (jV L)) O W)
      ⊢ wp frame (wpE (defs₀ (F := F)) 𝒱₀ (V d (cV L) (jV L)) none) Set.univ
          (cc0__sc_gather_body L tabV (Memref.isWhole_whole _) actV (Memref.isWhole_whole _) outV (Memref.isWhole_whole _)
            aV (Memref.isWhole_whole _) iV (Memref.isWhole_whole _) gV (Memref.isWhole_whole _) cc0_scratch3 cc0_scoped0 cc0_scoped1)
          fun _ => iprop(A ∗ B ∗ C ∗ ∃ W', ⌜∀ p ∈ W', p ∈ W ∨ p.2 = none⌝ ∗ owes (V d (cV L) (jV L)) O W') := by
  simp only [cc0__sc_gather_body_eq_skeleton]; unfold cc0__sc_gather_body_skel
  iintro ⟨-, -, HA, HB, HC, HO⟩
  have hg : ¬ Scalar.cmpi .ne (Scalar.extui (Scalar.cmpi .eq (Scalar.addi (Scalar.muli (BitVec.ofNat 32 (L 1).val) 2#32) (BitVec.ofNat 32 (L 0).val)) 0#32)) 0#32 = 1#1 :=
    fun h => hL ((guard_iff (L 0) (L 1)) ▸ h)
  rw [dif_neg hg]
  sl_step
  isplitl [HA]; · iexact HA
  isplitl [HB]; · iexact HB
  isplitl [HC]; · iexact HC
  iexists W; isplitr
  swap; · iexact HO
  ipureintro; exact fun p hp => .inl hp

end Tile

end Cert.Proof.Run
-- ==== Proof.Calls.lean ====
/-
  The SparseCore call: what its handshakes carry, each task's obligation, and how a SparseCore's share divides among its
  tasks. The whole of the work is task 0 of SparseCore 0's; every other task takes nothing and brings nothing back.
-/
module

public import proofs.«01_k».proof.Proof.Setup
public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A resource at one index only -/

/-- `A` where `b` holds, nothing elsewhere. -/
def only (b : Prop) [Decidable b] (A : sProp 𝕄) : sProp 𝕄 := if b then A else iprop(emp)

omit [FloatOps F] in
theorem only_pos {b : Prop} [Decidable b] (h : b) (A : sProp 𝕄) : only b A = A := if_pos h
omit [FloatOps F] in
theorem only_neg {b : Prop} [Decidable b] (h : ¬ b) (A : sProp 𝕄) : only b A = iprop(emp) := if_neg h

omit [FloatOps F] in
instance only_storable {b : Prop} [Decidable b] (A : sProp 𝕄) [BI.Storable (upEmb : UEmb _ 𝕄) A] :
    BI.Storable (upEmb : UEmb _ 𝕄) (only b A) := by
  unfold only; split <;> infer_instance

omit [FloatOps F] in
theorem bigSep_nothing {I : Type} (s : Finset I) : (bigSep s fun _ => iprop(emp)) = (iprop(emp) : sProp 𝕄) := bigSep_emp_const s

omit [FloatOps F] in
/-- A family that is `A` at one index and nothing elsewhere is `A`. -/
theorem bigSep_only {I : Type} [Fintype I] [DecidableEq I] (p : I → Prop) [DecidablePred p] (A : sProp 𝕄) (i₀ : I)
    (h0 : p i₀) (hn : ∀ i, i ≠ i₀ → ¬ p i) : (bigSep Finset.univ fun i => only (p i) A) = A := by
  rw [SparseCore.bigSep_erase' (Finset.mem_univ i₀), only_pos h0,
    show (bigSep (Finset.univ.erase i₀) fun i => only (p i) A) = bigSep (Finset.univ.erase i₀) fun _ => (iprop(emp) : sProp 𝕄) from
      bigSep_congr fun i hi => only_neg (hn i (Finset.ne_of_mem_erase hi)) A, bigSep_nothing]
  have e1 : iprop(A ∗ emp) ⊢ A := by
    iintro ⟨H, -⟩; iexact H
  have e2 : A ⊢ iprop(A ∗ emp) := by
    iintro H
    isplitl [H]; · iexact H
    iempintro
  exact BI.Entails.antisymm e1 e2

omit [FloatOps F] in
/-- A family that is nothing everywhere is nothing. -/
theorem bigSep_only_neg {I : Type} [Fintype I] (p : I → Prop) [DecidablePred p] (A : sProp 𝕄)
    (hn : ∀ i, ¬ p i) : (bigSep Finset.univ fun i => only (p i) A) = (iprop(emp) : sProp 𝕄) := by
  rw [show (bigSep Finset.univ fun i => only (p i) A) = bigSep Finset.univ fun _ => (iprop(emp) : sProp 𝕄) from
      bigSep_congr fun i _ => only_neg (hn i) A, bigSep_nothing]

/-! ## What the handshakes carry -/

variable (m : (ℓ : Loc nD τ sig) → Buf (Elt F) ℓ)

/-- What the call takes: the flat table, the flat actions, the result's buffer as launched; -/
abbrev taken (d : Dev nD) : sProp 𝕄 := iprop(tabPts d (tabOf m d) ∗ actPts d (actOf m d) ∗ gPts d (m (gLoc d)))
/-- and what it brings back: the same two, the result's buffer at the gathered logits. -/
abbrev brought (d : Dev nD) : sProp 𝕄 := iprop(tabPts d (tabOf m d) ∗ actPts d (actOf m d) ∗ gPts d (gOf m d))

def P : (K (F := F)).Pay (nD := nD) (Val := Elt F) (Name := ℕ) (U := UU) where
  st := fun q d c => match q with | 0 => only (c.val = 0) (taken m d)
  dn := fun q d c => match q with | 0 => only (c.val = 0) (brought m d)
  go := fun q d c i => match q with | 0 => only (c.val = 0 ∧ i.val = 0) (taken m d)
  td := fun q d c i => match q with | 0 => only (c.val = 0 ∧ i.val = 0) (brought m d)
  x := fun _ _ => iprop(emp)

instance P_storable : (P (F := F) m).IsStorable where
  st q d c := match q with | 0 => (inferInstance : BI.Storable (upEmb : UEmb _ 𝕄) (only (c.val = 0) (taken m d)))
  dn q d c := match q with | 0 => (inferInstance : BI.Storable (upEmb : UEmb _ 𝕄) (only (c.val = 0) (brought m d)))
  go q d c i := match q with | 0 => (inferInstance : BI.Storable (upEmb : UEmb _ 𝕄) (only (c.val = 0 ∧ i.val = 0) (taken m d)))
  td q d c i := match q with | 0 => (inferInstance : BI.Storable (upEmb : UEmb _ 𝕄) (only (c.val = 0 ∧ i.val = 0) (brought m d)))

/-! ## The tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          (Memref.whole main_v0_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [show (P m).go 0 d c i = only (c.val = 0 ∧ i.val = 0) (taken m d) from rfl,
    show (P m).td 0 d c i = only (c.val = 0 ∧ i.val = 0) (brought m d) from rfl]
  by_cases h : c.val = 0 ∧ i.val = 0
  · rw [only_pos h, only_pos h]
    exact (tile_body d (coordsV ⟨_, hci.1⟩ ⟨_, hci.2⟩) hF h (tabOf m d) (actOf m d) (m (gLoc d)) (actOf_lt m hpre d) O W hO).trans
      (wp_mono frame _ _ fun _ => obl_post)
  · rw [only_neg h, only_neg h]
    exact (tile_idle d (coordsV ⟨_, hci.1⟩ ⟨_, hci.2⟩) h iprop(emp) _ _ O W).trans (wp_mono frame _ _ fun _ => obl_post)

/-! ## A SparseCore's share among its tasks, and the call's among the SparseCores -/

theorem nSub_pos : 0 < (K (F := F)).nSub 0 := Nat.zero_lt_succ 15
theorem nCore_pos : 0 < (K (F := F)).nCore 0 := Nat.zero_lt_succ 1

theorem tasks_eq (c : Fin ((K (F := F)).nCore 0)) (A : sProp 𝕄) :
    (bigSep Finset.univ fun i : Fin ((K (F := F)).nSub 0) => only (c.val = 0 ∧ i.val = 0) A) = only (c.val = 0) A := by
  by_cases h : c.val = 0
  · rw [only_pos h]
    exact bigSep_only (fun i : Fin ((K (F := F)).nSub 0) => c.val = 0 ∧ i.val = 0) A ⟨0, nSub_pos⟩ ⟨h, rfl⟩
      fun i hi hp => hi (Fin.ext hp.2)
  · rw [only_neg h]
    exact bigSep_only_neg (fun i : Fin ((K (F := F)).nSub 0) => c.val = 0 ∧ i.val = 0) A fun i hp => h hp.1

theorem vecSplit : (K (F := F)).VecSplit' (P m) 0 := by
  intro d c
  show only (c.val = 0) (taken m d) ⊢ |={Set.univ}=> iprop(
      (bigSep Finset.univ fun i : Fin ((K (F := F)).nSub 0) => only (c.val = 0 ∧ i.val = 0) (taken m d))
      ∗ ((bigSep Finset.univ fun i : Fin ((K (F := F)).nSub 0) => only (c.val = 0 ∧ i.val = 0) (brought m d)) -∗ only (c.val = 0) (brought m d)))
  rw [tasks_eq, tasks_eq]
  iintro H; imodintro
  isplitl [H]; · iexact H
  iintro H; iexact H

theorem st_eq (d : Dev nD) : (bigSep Finset.univ fun c : Fin ((K (F := F)).nCore 0) => (P m).st 0 d c) = taken m d :=
  bigSep_only (fun c : Fin ((K (F := F)).nCore 0) => c.val = 0) (taken m d) ⟨0, nCore_pos⟩ rfl fun _ hi hp => hi (Fin.ext hp)
theorem dn_eq (d : Dev nD) : (bigSep Finset.univ fun c : Fin ((K (F := F)).nCore 0) => (P m).dn 0 d c) = brought m d :=
  bigSep_only (fun c : Fin ((K (F := F)).nCore 0) => c.val = 0) (brought m d) ⟨0, nCore_pos⟩ rfl fun _ hi hp => hi (Fin.ext hp)

end Cert.Proof.Run
-- ==== Proof.Reduce.lean ====
/-
  The TensorCore kernel at one grid point. Its loop carries three arrays: the running maximum of the columns that
  share a lane, the number of the first chunk that attains it, and the running sum of exponentials. `st X k` is what
  they hold before trip `k` over the staged block `X`; the body then leaves `lpBlk` and `moBlk` of that state.
-/
module

public import proofs.«01_k».proof.Proof.Setup
public import Idealize.ShloMosaic.Lib.VecWindow

@[expose] public section

noncomputable section

namespace Cert.Proof.Run

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## What the body computes, as a function of the staged blocks -/

/-- Chunk `k` of a staged block: its columns `128 k … 128 k + 127`. (The remainder only makes the index total.) -/
def chunk (X : Vec F S16x100000 .f32) (k : ℕ) : Vec F S16x128 .f32 :=
  fun x => X (ix2 (x 0) ⟨(128 * k + (x 1).val) % 100000, Nat.mod_lt _ (by decide)⟩)

/-- The block's last 32 columns, which fill no whole chunk. -/
def tail (X : Vec F S16x100000 .f32) : Vec F S16x32 .f32 :=
  fun x => X (ix2 (x 0) ⟨99968 + (x 1).val, by have h : (x 1).val < 32 := (x 1).isLt; omega⟩)

/-- What the loop carries: the maxima, the chunks' numbers, the sums. -/
abbrev Carried (F : FTy → Type) : Type := FVec F S16x128 .f32 × IVec S16x128 32 × FVec F S16x128 .f32

/-- One trip. -/
def trip (k : Fin k1_t1_loop.trips) (v : Vec F S16x128 .f32) (s : Carried F) : Carried F :=
  (k1_pay4 s.1 v, k1_pay5 k s.1 s.2.1 v, k1_pay6 s.2.2 v)

/-- The carried arrays before trip `k`. -/
def st (X : Vec F S16x100000 .f32) : ℕ → Carried F
  | 0 => (k1_pay1, k1_pay2, k1_pay3)
  | k + 1 => if h : k < k1_t1_loop.trips then trip ⟨k, h⟩ (chunk X k) (st X k) else st X k

theorem st_zero (X : Vec F S16x100000 .f32) : st X 0 = (k1_pay1, k1_pay2, k1_pay3) := rfl

theorem st_succ (X : Vec F S16x100000 .f32) (k : Fin k1_t1_loop.trips) :
    st X (k.val + 1) = trip k (chunk X k.val) (st X k.val) := dif_pos k.isLt

/-- The log-probabilities of a block of sixteen rows, from its logits and the gathered ones. -/
def lpBlk (X : Vec F S16x100000 .f32) (G : Vec F S16x1 .f32) : FVec F S16x1 .f32 :=
  k1_pay9 (st X k1_t1_loop.trips).2.2 (tail X) G

/-- The modes of a block of sixteen rows. -/
def moBlk (X : Vec F S16x100000 .f32) : IVec S16x1 32 :=
  k1_pay8 (st X k1_t1_loop.trips).1 (st X k1_t1_loop.trips).2.1 (tail X)

/-! ## The reads -/

theorem trip_lt (k : Fin k1_t1_loop.trips) : k.val < 781 := Nat.lt_of_lt_of_le k.isLt k1_t1_abs.2.1

/-- A trip's load reads the trip's chunk. -/
theorem read_chunk (arg1 : Memref sig .tc .vmem S16x100000 .f32) (f : BufTy.Contents (Elt F) arg1.view.ty) (k : Fin k1_t1_loop.trips) :
    arg1.view.readAt (Elt F) (Rect.unit (s := S16x100000) (k1_off1 k) S16x128.size (k1_off1_inb k)).toLoadRect f
      = chunk (arg1.view.read (Elt F) f) k.val := by
  funext x
  have hk := trip_lt k
  have h1 : (x 1).val < 128 := (x 1).isLt
  refine (arg1.view.readAt_apply _ f x).trans (congrArg (arg1.view.read (Elt F) f) (funext fun a => Fin.ext ?_))
  refine (congrArg (· + 1 * (x a).val) (congrFun (k1_off1_eq k) a)).trans ?_
  match a with
  | 0 => show 0 + 1 * (x 0).val = (x 0).val; omega
  | 1 => show 128 * k.val + 1 * (x 1).val = (128 * k.val + (x 1).val) % 100000; rw [Nat.mod_eq_of_lt (by omega), Nat.one_mul]

/-- The load after the loop reads the last 32 columns. -/
theorem read_tail (arg1 : Memref sig .tc .vmem S16x100000 .f32) (f : BufTy.Contents (Elt F) arg1.view.ty)
    (inb : ∀ a, (![0, 99968] : Fin 2 → ℕ) a + S16x32.size a ≤ S16x100000.size a) :
    arg1.view.readAt (Elt F) (Rect.unit (s := S16x100000) ![0, 99968] S16x32.size inb).toLoadRect f = tail (arg1.view.read (Elt F) f) := by
  funext x
  refine (arg1.view.readAt_apply _ f x).trans (congrArg (arg1.view.read (Elt F) f) (funext fun a => Fin.ext ?_))
  match a with
  | 0 => show 0 + 1 * (x 0).val = (x 0).val; omega
  | 1 => show 99968 + 1 * (x 1).val = 99968 + (x 1).val; omega

/-! ## The loop and the body -/

/-- The loop's invariant: the staged block in place, the carried arrays those of `st`. -/
def reduceInv (c : Dev nD) (arg1 : Memref sig .tc .vmem S16x100000 .f32) (f : BufTy.Contents (Elt F) arg1.view.ty) (k : ℕ) (acc : Carried F) : sProp 𝕄 :=
  iprop((arg1.view.loc (c : Thread nD τ) ↦[arg1.view.set]{fullShare} f) ∗ ⌜acc = st (arg1.view.read (Elt F) f) k⌝)

set_option maxRecDepth 16384 in
/-- THE BODY at a grid point: from the two staged blocks, the two results' buffers hold the log-probabilities and the
    modes of the block's rows. -/
theorem reduce_body (c : Dev nD) (i : grid1.Coords) (arg1 : Memref sig .tc .vmem S16x100000 .f32) (harg1 : arg1.IsWhole)
    (arg2 : Memref sig .tc .vmem S16x1 .f32) (harg2 : arg2.IsWhole) (arg3 : Memref sig .tc .vmem S16x1 .f32) (harg3 : arg3.IsWhole)
    (arg4 : Memref sig .tc .vmem S16x1 .i32) (harg4 : arg4.IsWhole)
    (f1 : BufTy.Contents (Elt F) arg1.view.ty) (f2 : BufTy.Contents (Elt F) arg2.view.ty)
    (f3 : BufTy.Contents (Elt F) arg3.view.ty) (f4 : BufTy.Contents (Elt F) arg4.view.ty) :
    iprop((arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4))
      ⊢ (wp frame (wpE (defs₀ (F := F)) 𝒱₀ (c : Thread nD τ) none) Set.univ
          (cc1__tc_reduce_body i arg1 harg1 arg2 harg2 arg3 harg3 arg4 harg4) fun _ =>
          iprop((arg1.view.loc (c : Thread nD τ) ↦[arg1.view.set]{fullShare} f1)
            ∗ (arg2.view.loc (c : Thread nD τ) ↦[arg2.view.set]{fullShare} f2)
            ∗ (∃ g3, ⌜arg3.view.read (Elt F) g3 = lpBlk (arg1.view.read (Elt F) f1) (arg2.view.read (Elt F) f2)⌝
                ∗ (arg3.view.loc (c : Thread nD τ) ↦[arg3.view.set]{fullShare} g3))
            ∗ (∃ g4, ⌜arg4.view.read (Elt F) g4 = moBlk (arg1.view.read (Elt F) f1)⌝
                ∗ (arg4.view.loc (c : Thread nD τ) ↦[arg4.view.set]{fullShare} g4))) : sProp 𝕄) := by
  rw [cc1__tc_reduce_body_eq_skeleton]
  unfold cc1__tc_reduce_body_skel
  rw [k1_part1_eq_skeleton]
  unfold k1_part1_skel
  simp only [bind_assoc]
  iintro ⟨H1, H2, H3, H4⟩
  sl_for (reduceInv c arg1 f1) $$ [H1]
  case region =>
    intro k acc
    have hk : k.val < 781 := trip_lt k
    unfold reduceInv
    iintro ⟨HR, %h⟩
    subst h
    sl_exec
    sl_step
    isplitl [HR]
    · iexact HR
    · ipureintro
      rw [st_succ, ← read_chunk]
      rfl
  · unfold reduceInv
    isplitl [H1]; · iexact H1
    ipureintro; rfl
  iintro %acc
  unfold reduceInv
  iintro ⟨H1, %h⟩
  subst h
  sl_exec
  sl_step
  isplitl [H1]; · iexact H1
  isplitl [H2]; · iexact H2
  isplitl [H3]
  · iexists _; isplitr
    swap; · iexact H3
    ipureintro
    refine (View.read_writes_full arg3.view f3 _ _ _).trans ?_
    exact congrArg₂ (k1_pay9 (F := F) _) (read_tail arg1 f1 _) (View.readAt_full arg2.view f2 _)
  · iexists _; isplitr
    swap; · iexact H4
    ipureintro
    refine (View.read_writes_full arg4.view f4 _ _ _).trans ?_
    exact congrArg (k1_pay8 (F := F) _ _) (read_tail arg1 f1 _)

end Cert.Proof.Run
-- ==== Proof.Region.lean ====
/-
  The TensorCore kernel's pipeline: its proof data (what each window's array holds when the region is entered, what each
  point leaves in its staging buffers) and the body's obligation at every point.
-/
module

public import proofs.«01_k».proof.Proof.Setup
public import proofs.«01_k».proof.Proof.Reduce

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The proof data -/

/-- The gathered logits as a column, as the host's reshape leaves them. -/
def gcOf (d : Dev nD) : S128x1.Idx → Elt F .f32 := shapeCast S128x1 (gOf m d) shapeCasts_S128_S128x1

/-- The block of logits that point `t` stages, and the block of gathered logits. -/
def xBlk (c : Dev nD) (t : Fin cfg1.N) : Vec F S16x100000 .f32 := ((cfg1.win 0).blk t).view.read (Elt F) (m (xLoc c))
def gBlk (c : Dev nD) (t : Fin cfg1.N) : Vec F S16x1 .f32 := ((cfg1.win 1).blk t).view.read (Elt F) (gcOf m c)

/-- The pairs the core may have waited on when it enters the region: those of the SparseCore call's handshakes. -/
def waited (c : Dev nD) : Set (SemLoc sig × HIx 1) := {p | (K (F := F)).lev (SparseCore.T c, p.1) p.2 ≤ 8}

def dats (_ : Fin 1) (c : Dev nD) : Dat τ (Elt F) (HIx 1) ℕ UU ℕ cfg1 c where
  A w := match w with
    | ⟨0, _⟩ => m (xLoc c)
    | ⟨1, _⟩ => gcOf m c
    | ⟨2, _⟩ => m (lpLoc c)
    | ⟨3, _⟩ => m (moLoc c)
  after w t := match w with
    | ⟨0, _⟩ => xBlk m c t
    | ⟨1, _⟩ => gBlk m c t
    | ⟨2, _⟩ => lpBlk (xBlk m c t) (gBlk m c t)
    | ⟨3, _⟩ => moBlk (xBlk m c t)
  Φ _ := iprop(emp)
  q _ := fullShare
  owed _ := 0
  recorded _ := waited (F := F) c

/-- The staged windows' buffers hold their arrays' blocks when the body runs. -/
theorem before_0 (c : Dev nD) (t : Fin cfg1.N) (d : (cfg1.win 0).block.Idx → Elt F (cfg1.win 0).elt) :
    (dats m 0 c).before 0 t d = xBlk m c t := by
  unfold Dat.before; rw [if_pos (fetch1_0 t)]; rfl
theorem before_1 (c : Dev nD) (t : Fin cfg1.N) (d : (cfg1.win 1).block.Idx → Elt F (cfg1.win 1).elt) :
    (dats m 0 c).before 1 t d = gBlk m c t := by
  unfold Dat.before; rw [if_pos (fetch1_1 t)]; rfl

theorem defs₀_tc (t : Fin cfg1.N) : defs₀ (F := F) .tc cfg1.body (cfg1.bodyArgs t (cfg1.slots t)) = bodyAt1 t := rfl

/-- The body's obligation at every point: the staging buffers taken apart, the body's triple applied. -/
theorem body_obligation (c : Dev nD) : BodyObligation (dats m 0 c) (defs₀ (F := F)) 𝒱₀ (none : HIx 1) Set.univ := fun t => by
  rw [bigSep_W1, bigSep_W1, defs₀_tc]
  rw [show (dats m 0 c).Φ t.castSucc = iprop(emp) from rfl, show (dats m 0 c).Φ t.succ = iprop(emp) from rfl]
  unfold Dat.owesAt Pipeline.owesWithin
  rw [show (dats m 0 c).owed t.castSucc = 0 from rfl, show (dats m 0 c).owed t.succ = 0 from rfl]
  unfold owns
  iintro ⟨-, ⟨%W, %hW, HO⟩, ⟨%d0, %f0, %h0, H0⟩, ⟨%d1, %f1, %h1, H1⟩, ⟨%d2, %f2, -, H2⟩, ⟨%d3, %f3, -, H3⟩⟩
  rw [before_0] at h0
  rw [before_1] at h1
  iapply (wp_wand_r frame (wpE (defs₀ (F := F)) 𝒱₀ (c : Thread nD τ) none) Set.univ)
  isplitl [H0 H1 H2 H3]
  · iapply (reduce_body c (grid1.coords t) (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3)) f0 f1 f2 f3)
    isplitl [H0]; · iexact H0
    isplitl [H1]; · iexact H1
    isplitl [H2]; · iexact H2
    iexact H3
  iintro %_ ⟨H0, H1, ⟨%g2, %h2, H2⟩, ⟨%g3, %h3, H3⟩⟩
  isplitr; · iempintro
  isplitl [HO]
  · iexists W; isplitr; · ipureintro; exact hW
    iexact HO
  isplitl [H0]
  · iexists f0; isplitr; · ipureintro; exact h0
    iexact H0
  isplitl [H1]
  · iexists f1; isplitr; · ipureintro; exact h1
    iexact H1
  isplitl [H2]
  · iexists g2; isplitr; · ipureintro; exact h2.trans (congrArg₂ lpBlk h0 h1)
    iexact H2
  iexists g3; isplitr; · ipureintro; exact h3.trans (congrArg moBlk h0)
  iexact H3

end Cert.Proof.Run
-- ==== Proof.Main.lean ====
/-
  @main on the TensorCore: the host's reshapes, the SparseCore call, the pipelined region; and the whole program's run,
  its results' contents named.
-/
module

public import proofs.«01_k».proof.Proof.Calls
public import proofs.«01_k».proof.Proof.Region

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The region -/

/-- The pipeline's rounds among the certificate's ghost state. -/
abbrev EP : Emb UP (MT nD τ sig (HIx 1) (Elt F) ℕ UU ℕ) := (Emb.inl : Emb UP (UP × Counters)).trans embR

omit [FloatOps F] in
instance EP_landsIn : (EP (F := F)).LandsIn (upEmb : UEmb _ (MT nD τ sig (HIx 1) (Elt F) ℕ UU ℕ)) := by
  unfold EP; infer_instance

abbrev adm (p : Fin 1) : (pcfgs (F := F) p).Adm := (cfgs p).toPCfg_adm

/-- What the core owes between the SparseCore call and the end: nothing, having waited on the handshakes' cells alone. -/
def settled (c : Dev nD) : sProp 𝕄 := iprop(∃ W : Waits sig (HIx 1), ⌜(↑W : Set (SemLoc sig × HIx 1)) ⊆ waited (F := F) c⌝ ∗ owes (SparseCore.T c) 0 W)

/-- The four windows' arrays, as the region finds them and as it leaves them. -/
def found (c : Dev nD) : sProp 𝕄 :=
  iprop((xLoc c ↦{fullShare} m (xLoc c)) ∗ (gcLoc c ↦{fullShare} gcOf m c) ∗ (lpLoc c ↦{fullShare} m (lpLoc c)) ∗ (moLoc c ↦{fullShare} m (moLoc c)))
def lpFin (c : Dev nD) : Buf (Elt F) (lpLoc c) := (dats m 0 c).arrAt 2 cfg1.N
def moFin (c : Dev nD) : Buf (Elt F) (moLoc c) := (dats m 0 c).arrAt 3 cfg1.N
def left (c : Dev nD) : sProp 𝕄 :=
  iprop((xLoc c ↦{fullShare} m (xLoc c)) ∗ (lpLoc c ↦{fullShare} lpFin m c) ∗ (moLoc c ↦{fullShare} moFin m c))

theorem arrays_four (c : Dev nD) (A : (w : Fin cfg1.W) → Buf (Elt F) (((cfg1).spec w).arr.view.loc (c.tc : Thread nD τ))) :
    (dats m 0 c).arrays A = iprop((xLoc c ↦{fullShare} A 0) ∗ (gcLoc c ↦{fullShare} A 1) ∗ (lpLoc c ↦{fullShare} A 2) ∗ (moLoc c ↦{fullShare} A 3)) :=
  (Pipeline.arrays_eq cfgs (dats m) 0 c launch1.arr_whole ((dats m 0 c).share_full fun _ => rfl) A).trans (bigSep_W1 _)

theorem settled_in (c : Dev nD) : settled (F := F) c ⊢ (dats m 0 c).owesAt (none : HIx 1) 0 := by
  unfold settled Pipeline.Dat.owesAt Pipeline.owesWithin
  iintro ⟨%W, %hW, HO⟩
  iexists W; isplitr; · ipureintro; exact fun p hp => Or.inl (hW hp)
  iexact HO

theorem settled_out (c : Dev nD) : (dats m 0 c).owesAt (none : HIx 1) (Fin.last cfg1.N) ⊢ settled (F := F) c := by
  unfold settled Pipeline.Dat.owesAt Pipeline.owesWithin
  iintro ⟨%W, %hW, HO⟩
  iexists W; isplitr
  · ipureintro; intro p hp
    rcases hW hp with h | ⟨w, s, rfl⟩
    · exact h
    · exact Nat.zero_le _
  iexact HO

set_option backward.isDefEq.respectTransparency.types false in
def reg : Pipeline.RegionSeg (pcfgs (F := F)) adm (dats m) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m c).loose
  hwaits := Pipeline.hwaits_of_owed_zero _ _ _ _ (K (F := F)).L (K (F := F)).lev 0 fun _ _ => rfl
  pre c := iprop(found m c ∗ settled c)
  post c := iprop(left m c ∗ settled c)
  X _ := iprop(emp)
  Y _ := iprop(emp)
  Z _ := iprop(emp)
  hentry c := by
    iintro ⟨⟨Hf, HO⟩, -, -⟩
    imodintro
    isplitl [Hf]
    · iapply (Entails.of_eq (show found m c = (dats m 0 c).arrays ((dats m 0 c).arrAt · 0) from (arrays_four m c ((dats m 0 c).arrAt · 0)).symm)); iexact Hf
    isplitr; · unfold Pipeline.prefHeld; rw [show (Finset.univ : Finset (Fin 0)) = ∅ from rfl, BI.bigSep_empty]; iempintro
    isplitl [HO]; · iapply (settled_in m c); iexact HO
    isplitr; · iempintro
    iempintro
  hin c := by
    rw [show (dats m 0 c).Φ 0 = iprop(emp) from rfl]
    iintro ⟨-, -, -⟩
    iempintro
  hout c := by
    rw [show (dats m 0 c).Φ (Fin.last cfg1.N) = iprop(emp) from rfl]
    iintro -
    isplitr; · iempintro
    isplitr
    · unfold Pipeline.ownSems0; rw [show (Finset.univ : Finset PEmpty) = ∅ from rfl, BI.bigSep_empty]; iempintro
    iapply (Entails.of_eq (scopedRest1_eq (Ix := HIx 1) (Name := ℕ) (U := UU) (Lvl := ℕ) (Val := Elt F) c).symm); iempintro
  hexit c := by
    iintro ⟨Ha, HO, -, -⟩
    imodintro
    isplitl [Ha]
    · ihave H := (Entails.of_eq (arrays_four m c ((dats m 0 c).arrAt · cfg1.N))) $$ Ha
      icases H with ⟨H0, -, H2, H3⟩
      unfold left
      isplitl [H0]
      · iapply (Entails.of_eq (congrArg (fun A => (xLoc c ↦{fullShare} A : sProp 𝕄)) ((dats m 0 c).arrAt_in 0 rfl cfg1.N)))
        iexact H0
      isplitl [H2]; · iexact H2
      iexact H3
    iapply (settled_out m c); iexact HO

/-! ## The ghost state of the launch -/

def u₀ : UU := (initOf (K (F := F)).hsCells (K (F := F)).hsToks, (initOf (Pipeline.cells cfgs cellOf_inj) (Pipeline.launchToks cfgs cellOf_inj), 1))

/-- What the launch deals each device's TensorCore for its region. -/
def G (c : Dev nD) : sProp 𝕄 := iprop(cellsGhost cfgs (EP (F := F)) 0 c ∗ toksInit cfgs (EP (F := F)) 0 c)

theorem G_eq : (bigSep Finset.univ (G (F := F)) : sProp 𝕄)
    = iprop((bigSep Finset.univ fun c : Dev nD => bigSep Finset.univ fun p : Fin 1 => cellsGhost cfgs (EP (F := F)) p c)
        ∗ (bigSep Finset.univ fun c : Dev nD => bigSep Finset.univ fun p : Fin 1 => (toksInit cfgs (EP (F := F)) p c : sProp 𝕄))) := by
  unfold G
  rw [bigSep_sep']
  exact congrArg₂ _ (bigSep_congr fun c _ => (bigSep_univ_of_subsingleton (Φ := fun p : Fin 1 => cellsGhost cfgs (EP (F := F)) p c) (0 : Fin 1)).symm)
    (bigSep_congr fun c _ => (bigSep_univ_of_subsingleton (Φ := fun p : Fin 1 => (toksInit cfgs (EP (F := F)) p c : sProp 𝕄)) (0 : Fin 1)).symm)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost cfgs (EP (F := F)) cellOf_inj) $$ HP with ⟨Hc, Ht⟩
  imodintro
  isplitl [HH]; · iexact HH
  isplitl [Hc Ht]
  · iapply (Entails.of_eq (G_eq (F := F)).symm)
    isplitl [Hc] <;> iassumption
  rw [show (bigSep Finset.univ fun thr : Thread nD τ => bigSep Finset.univ fun q : Fin 1 => (P (F := F) m).x q thr) = iprop(emp) from
    (bigSep_congr fun _ _ => bigSep_univ_of_subsingleton (0 : Fin 1)).trans (bigSep_emp_const _)]
  iempintro

/-! ## @main -/

omit [FloatOps F] in
theorem unscopedBufs_eight (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_arg1) ∗ (tabLoc d ↦{fullShare} W main_v0)
      ∗ (actLoc d ↦{fullShare} W main_v1) ∗ (gLoc d ↦{fullShare} W main_v2) ∗ (gcLoc d ↦{fullShare} W main_v3)
      ∗ (lpLoc d ↦{fullShare} W main_v4_0) ∗ moLoc d ↦{fullShare} W main_v4_1) := by
  unfold unscopedBufs
  rw [show (Finset.univ.filter fun b : Ref sig .tc => ¬ b.isScoped) = {main_arg0, main_arg1, main_v0, main_v1, main_v2, main_v3, main_v4_0, main_v4_1} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

include m in
/-- A reshape on the host, from the two buffers whole: the second ends at the first's contents cast. -/
theorem wp_reshape {x y : Ref sig .tc} (he : x.ty.elt = y.ty.elt) (hn hx hy) (hne : x ≠ y) (d : Dev nD)
    (f : Buf (Elt F) ((d.tc : Thread nD τ).loc x)) (g : Buf (Elt F) ((d.tc : Thread nD τ).loc y)) (Q : PUnit → sProp 𝕄) :
    iprop((boundary (SparseCore.T d) ∗ (((d.tc : Thread nD τ).loc x) ↦{fullShare} f) ∗ (((d.tc : Thread nD τ).loc y) ↦{fullShare} g))
      ∗ ((boundary (SparseCore.T d) ∗ (((d.tc : Thread nD τ).loc x) ↦{fullShare} f)
          ∗ (((d.tc : Thread nD τ).loc y) ↦{fullShare} (fun i => he ▸ shapeCast y.ty.shape f hn i : Buf (Elt F) ((d.tc : Thread nD τ).loc y)))) -∗ Q ⟨⟩))
      ⊢ wp frame (wpE ((K (F := F)).defs (D (F := F))) 𝒱 (SparseCore.T d) none) Set.univ
          (hlo rfl (StableHlo.reshape x y he hn hx hy) (fun _ => .ret ⟨⟩)) Q := by
  classical
  let V : Valuation τ sig (Elt F) := Function.update (Function.update (fun b => m (d, b)) (Proc.devRef .tc x) f) (Proc.devRef .tc y) g
  have hdne : (Proc.devRef .tc x : DevRef τ sig) ≠ Proc.devRef .tc y := StableHlo.devRef_ne_of_ne hne
  have hVx : V (Proc.devRef .tc x) = f := by
    show Function.update _ _ _ _ = _
    rw [Function.update_of_ne hdne, Function.update_self]
  have hVy : V (Proc.devRef .tc y) = g := Function.update_self _ _ _
  have hb (W : Valuation τ sig (Elt F)) : (bigSep (StableHlo.reshape (τ := τ) (Val := Elt F) x y he hn hx hy).bufs (fun b => ((d, b) ↦{fullShare} W b : sProp 𝕄)))
      = iprop((((d.tc : Thread nD τ).loc x) ↦{fullShare} W (Proc.devRef .tc x)) ∗ (((d.tc : Thread nD τ).loc y) ↦{fullShare} W (Proc.devRef .tc y))) := by
    rw [StableHlo.reshape_bufs, SparseCore.bigSep_insert' (by rw [Finset.mem_singleton]; exact hdne), bigSep_singleton]
  have h := wp_hlo (Γ := .empty) (defs := (K (F := F)).defs (D (F := F))) 𝒱 (SparseCore.T d) none Set.univ
    (hp := rfl) (op := StableHlo.reshape x y he hn hx hy) (k := fun _ => (.ret ⟨⟩ : Prog _ PUnit)) (Q := Q) (q := fun _ => fullShare) (F := V) (fun _ _ => rfl)
  rw [show ((SparseCore.T d : Thread nD τ).1) = d from rfl, hb, hb, hVx, hVy, StableHlo.reshape_result_ne x y he hn hx hy V hne, StableHlo.reshape_result x y he hn hx hy V, hVx] at h
  iintro ⟨⟨Hb, Hx, Hy⟩, Hk⟩
  iapply h $$ [Hb Hx Hy]
  · isplitl [Hb]; · iexact Hb
    isplitl [Hx] <;> iassumption
  iintro H
  rw [wp_ret]
  imodintro
  iapply Hk
  iexact H

/-- What the program leaves of each device's buffers that the claims read. -/
def FIN (d : Dev nD) : sProp 𝕄 :=
  iprop((xLoc d ↦{fullShare} m (xLoc d)) ∗ (aLoc d ↦{fullShare} m (aLoc d)) ∗ (lpLoc d ↦{fullShare} lpFin m d) ∗ (moLoc d ↦{fullShare} moFin m d))

theorem settled_of (d : Dev nD) (W : Waits sig (HIx 1)) (h : (K (F := F)).WBelow (SparseCore.T d) W 8) :
    owes (SparseCore.T d) 0 W ⊢ (settled (F := F) d : sProp 𝕄) := by
  unfold settled
  iintro HO
  iexists W; isplitr; · ipureintro; exact fun p hp => h p hp
  iexact HO

theorem below_of_settled (d : Dev nD) : (settled (F := F) d : sProp 𝕄) ⊢ iprop(∃ W, ⌜(K (F := F)).WBelow (SparseCore.T d) W 8⌝ ∗ owes (SparseCore.T d) 0 W) := by
  unfold settled
  iintro ⟨%W, %hW, HO⟩
  iexists W; isplitr; · ipureintro; exact fun p hp => hW hp
  iexact HO

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eight]
  simp only [main, wp_bind, wp_pure]
  iintro ⟨#Hctx, Hst, ⟨Hb, ⟨Hx, Ha, Htab, Hact, Hg, Hgc, Hlp, Hmo⟩, Hts, -⟩, Hgh⟩
  iapply (wp_reshape m _ _ _ _ (show main_arg0 ≠ main_v0 by decide) d)
  isplitl [Hb Hx Htab]
  · isplitl [Hb]; · iexact Hb
    isplitl [Hx]; · iexact Hx
    iexact Htab
  iintro ⟨Hb, Hx, Htab⟩
  iapply (wp_reshape m _ _ _ _ (show main_arg1 ≠ main_v1 by decide) d)
  isplitl [Hb Ha Hact]
  · isplitl [Hb]; · iexact Hb
    isplitl [Ha]; · iexact Ha
    iexact Hact
  iintro ⟨Hb, Ha, Hact⟩
  iapply ((K (F := F)).wp_run (D (F := F)) 𝒱 (EH := EH) (P := P m) κ d 0)
  isplitr; · iexact Hctx
  isplitl [Hst]; · iexact Hst
  isplitl [Htab Hact Hg]
  · rw [st_eq]
    unfold taken
    isplitl [Htab]; · iexact Htab
    isplitl [Hact]; · iexact Hact
    iexact Hg
  iintro ⟨Hst, Hdn⟩
  ihave Hdn' := (Entails.of_eq (dn_eq m d)) $$ Hdn
  unfold brought
  icases Hdn' with ⟨-, -, Hg⟩
  iapply (wp_reshape m _ _ _ _ (show main_v2 ≠ main_v3 by decide) d)
  isplitl [Hb Hg Hgc]
  · isplitl [Hb]; · iexact Hb
    isplitl [Hg]; · iexact Hg
    iexact Hgc
  iintro ⟨Hb, -, Hgc⟩
  unfold SparseCore.Cfg.tcSt
  rw [show (K (F := F)).Otc (N := 1) d (((0 : Fin 1)).val + 1) = 0 from (K (F := F)).Otc_end d le_rfl,
    show (K (F := F)).Otc (N := 1) d 1 = 0 from (K (F := F)).Otc_end d le_rfl]
  icases Hst with ⟨⟨%W, %hW, HO⟩, Hrest⟩
  ihave HO := (settled_of d W hW) $$ HO
  unfold G
  icases Hgh with ⟨Hcg, Htk⟩
  iapply ((K (F := F)).wp_liftProg (D (F := F)) 𝒱 (SparseCore.T d) Set.univ none (Prog.lift (.customCall (Pipeline.entry 0) ())))
  iapply (Pipeline.RegionSeg.wp pcfgs adm (dats m) (none : HIx 1) cellOf_inj (EP (F := F)) defs₀ 𝒱₀ (K (F := F)).L (K (F := F)).lev (reg m) d none (fun u h => nomatch h) _ _)
  isplitr [Hb HO Hx Hgc Hlp Hmo Hcg Htk]
  · iintro ⟨Hb, Hpost⟩
    unfold reg left
    icases Hpost with ⟨⟨Hx, Hlp, Hmo⟩, HO⟩
    rw [wp_ret]
    imodintro
    imodintro
    isplitl [HO Hrest]
    · isplitl [HO]
      · iapply (below_of_settled d); iexact HO
      iexact Hrest
    isplitl [Hx Ha Hlp Hmo]
    · unfold FIN
      isplitl [Hx]; · iexact Hx
      isplitl [Ha]; · iexact Ha
      isplitl [Hlp] <;> iassumption
    isplitl [Hb] <;> iassumption
  isplitl [Hb]; · iexact Hb
  isplitl [HO Hx Hgc Hlp Hmo]
  · unfold reg found
    isplitr [HO]
    · isplitl [Hx]; · iexact Hx
      isplitl [Hgc]; · iexact Hgc
      isplitl [Hlp] <;> iassumption
    iexact HO
  isplitr
  · iapply (SparseCore.Cfg.ctx_levAts κ); iexact Hctx
  isplitl [Hcg] <;> iassumption

/-! ## The program's run -/

/-- What a device's final memory holds: the arguments as they were, the results at the region's contents. -/
def ends (d : Dev nD) (mem : (ℓ : Loc nD τ sig) → Buf (Elt F) ℓ) : Prop :=
  mem (xLoc d) = m (xLoc d) ∧ mem (aLoc d) = m (aLoc d) ∧ mem (lpLoc d) = lpFin m d ∧ mem (moLoc d) = moFin m d

set_option maxRecDepth 16384 in
theorem hfin (d : Dev nD) (s' : Phys nD τ sig (Elt F)) : iprop(FIN m d ∗ SI s') ⊢ (⌜ends m d s'.mem.mem⌝ : sProp 𝕄) := by
  unfold FIN
  iintro ⟨⟨Hx, Ha, Hl, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := lpLoc d) (I := Finset.univ) (q := fullShare) (f := lpFin m d))) $$ [HSI Hl]
  · isplitl [HSI] <;> iassumption
  icases H with ⟨%h3, HSI, -⟩
  ihave H := (SI_pointsTo_agree (st := s') (ℓ := moLoc d) (I := Finset.univ) (q := fullShare) (f := moFin m d)) $$ [HSI Ho]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

theorem run_main [∀ e, Nonempty (Elt F e)] (hpre : PreOK m) :
    θ_run (Cert.KernelIdeal.defs (F := F)) (Cert.KernelIdeal.threads (F := F)) ⟨m, fun _ => 0, ρ⟩
      (fun r => (∀ d : Dev nD, ends m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fun d s' => ends m d s'.mem.mem) (hfin m)
    (fun r => (∀ d : Dev nD, ends m d r.2.mem) ∧ r.2.sem = fun _ => 0) (fun _ h hz => ⟨h, hz⟩)

end Cert.Proof.Run
-- ==== Proof.Reference.lean ====
/-
  The reference's run: a straight line of host operations, each result's contents stated as a function of the arguments.
-/
module

public import proofs.«01_k».proof.Defs
public import Idealize.ShloMosaic.Lib.StableHlo.Run
public import Idealize.ShloMosaic.Lib.StableHlo.RunHlo
public import Idealize.ShloMosaic.Lib.Claim
public import proofs.«01_k».proof.Proof.Gen.ReferenceIdeal

@[expose] public section

noncomputable section

namespace Cert.Proof.Ref

open Cert.ReferenceIdeal Cert.ReferenceIdeal.Gen
open Idealize.ShloMosaic Idealize.SL.Sem Idealize.ShloMosaic.TcCoe

variable {F : FTy → Type} [FloatOps F]

/-! ## The line of operations -/

/-- The normalised logits. -/
def normOps : List (HloOp τ sig (Elt F)) := [
  StableHlo.nullary main_cst (constant S_ .f32 0xFF800000#32),
  StableHlo.binary main_arg0 main_cst main_v0 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
  StableHlo.unary main_v0 main_v1 (broadcastInDim S128x1 ![0] bcast_S128_S128x1_0 : (⟨S128, .f32⟩ : BufTy).Contents (Elt F) → (⟨S128x1, .f32⟩ : BufTy).Contents (Elt F)),
  StableHlo.unary main_v1 main_v2 (broadcastInDim S128x100000 ![0, 1] bcast_S128x1_S128x100000_0_1 : (⟨S128x1, .f32⟩ : BufTy).Contents (Elt F) → (⟨S128x100000, .f32⟩ : BufTy).Contents (Elt F)),
  StableHlo.binary main_arg0 main_v2 main_v3 (subf : (⟨S128x100000, .f32⟩ : BufTy).Contents (Elt F) → (⟨S128x100000, .f32⟩ : BufTy).Contents (Elt F) → (⟨S128x100000, .f32⟩ : BufTy).Contents (Elt F)),
  StableHlo.unary main_v3 main_v4 (Host.exp : (⟨S128x100000, .f32⟩ : BufTy).Contents (Elt F) → (⟨S128x100000, .f32⟩ : BufTy).Contents (Elt F)),
  StableHlo.nullary main_cst_0 (constant S_ .f32 0x00000000#32),
  StableHlo.binary main_v4 main_cst_0 main_v5 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
  StableHlo.unary main_v5 main_v6 (broadcastInDim S128x1 ![0] bcast_S128_S128x1_0 : (⟨S128, .f32⟩ : BufTy).Contents (Elt F) → (⟨S128x1, .f32⟩ : BufTy).Contents (Elt F)),
  StableHlo.unary main_v6 main_v7 (Host.log : (⟨S128x1, .f32⟩ : BufTy).Contents (Elt F) → (⟨S128x1, .f32⟩ : BufTy).Contents (Elt F)),
  StableHlo.binary main_v7 main_v1 main_v8 (addf : (⟨S128x1, .f32⟩ : BufTy).Contents (Elt F) → (⟨S128x1, .f32⟩ : BufTy).Contents (Elt F) → (⟨S128x1, .f32⟩ : BufTy).Contents (Elt F)),
  StableHlo.unary main_v8 main_v9 (broadcastInDim S128x100000 ![0, 1] bcast_S128x1_S128x100000_0_1 : (⟨S128x1, .f32⟩ : BufTy).Contents (Elt F) → (⟨S128x100000, .f32⟩ : BufTy).Contents (Elt F)),
  StableHlo.binary main_arg0 main_v9 main_v10 (subf : (⟨S128x100000, .f32⟩ : BufTy).Contents (Elt F) → (⟨S128x100000, .f32⟩ : BufTy).Contents (Elt F) → (⟨S128x100000, .f32⟩ : BufTy).Contents (Elt F))]

/-- The gather along the rows. -/
def takeOps : List (HloOp τ sig (Elt F)) := [
  StableHlo.TRef.nullary main_call0.c (constantI S_ 32 0#32),
  StableHlo.TRef.unary main_call0.c main_call0.v0 (broadcastInDim S128x1 ![] bcast_S_S128x1),
  StableHlo.TRef.binary (.of main_arg1) main_call0.v0 main_call0.v1 (cmpi .slt),
  StableHlo.TRef.nullary main_call0.c_0 (constantI S_ 32 100000#32),
  StableHlo.TRef.unary main_call0.c_0 main_call0.v2 (broadcastInDim S128x1 ![] bcast_S_S128x1),
  StableHlo.TRef.binary (.of main_arg1) main_call0.v2 main_call0.v3 addi,
  StableHlo.TRef.ternary main_call0.v1 main_call0.v3 (.of main_arg1) main_call0.v4 select,
  StableHlo.TRef.reshape main_call0.v4 main_call0.v5 (rfl : (.i32 : EltTy) = .i32) shapeCasts_S128x1_S128x1x1,
  StableHlo.TRef.nullary main_call0.c_1 (constantI S1 32 99999#32),
  StableHlo.TRef.nullary main_call0.c_2 (constantI S_ 32 0#32),
  StableHlo.TRef.unary main_call0.c_2 main_call0.v6 (broadcastInDim S128x1x1 ![] bcast_S_S128x1x1),
  StableHlo.TRef.binary main_call0.v5 main_call0.v6 main_call0.v7 (cmpi .sge),
  StableHlo.TRef.unary main_call0.c_1 main_call0.v8 (broadcastInDim S1x1x1 ![2] bcast_S1_S1x1x1_2),
  StableHlo.TRef.unary main_call0.v8 main_call0.v9 (broadcastInDim S128x1x1 ![0, 1, 2] bcast_S1x1x1_S128x1x1_0_1_2),
  StableHlo.TRef.binary main_call0.v5 main_call0.v9 main_call0.v10 (cmpi .sle),
  StableHlo.TRef.binary main_call0.v7 main_call0.v10 main_call0.v11 andi,
  StableHlo.TRef.nullary main_call0.c_3 (constantI S_ 1 1#1),
  StableHlo.TRef.binary main_call0.v11 main_call0.c_3 main_call0.v12 (fun x v => Host.reduce IntOp.andi x v reducesTo_S128x1x1_S128x1_d2 h_S_),
  StableHlo.TRef.binary (.of main_v10) main_call0.v5 main_call0.v13 (fun x i => Host.gather gather_S128x100000_S128x1x1_S128x1_n_1_0_0_1_2_11 x i),
  StableHlo.TRef.nullary main_call0.cst (constant S_ .f32 0x7FC00000#32),
  StableHlo.TRef.unary main_call0.cst main_call0.v14 (broadcastInDim S128x1 ![] bcast_S_S128x1),
  StableHlo.TRef.ternary main_call0.v12 main_call0.v13 main_call0.v14 main_call0.v15 select]

/-- The probabilities and the row's first largest. -/
def modeOps : List (HloOp τ sig (Elt F)) := [
  StableHlo.unary main_v10 main_v12 (Host.exp : (⟨S128x100000, .f32⟩ : BufTy).Contents (Elt F) → (⟨S128x100000, .f32⟩ : BufTy).Contents (Elt F)),
  StableHlo.TRef.nullary main_call1.v0 (iotaInDim S128x100000 32 1),
  StableHlo.TRef.nullary main_call1.cst (constant S_ .f32 0xFF800000#32),
  StableHlo.TRef.nullary main_call1.c (constantI S_ 32 0#32),
  StableHlo.TRef.quaternary (.of main_v12) main_call1.v0 main_call1.cst main_call1.c main_call1.v1_0 (fun x y u v j => (Host.argReduce reducer_argmax_f32_i32 x y u v reducesTo_S128x100000_S128_d1 h_S_ j).1),
  StableHlo.TRef.quaternary (.of main_v12) main_call1.v0 main_call1.cst main_call1.c main_call1.v1_1 (fun x y u v j => (Host.argReduce reducer_argmax_f32_i32 x y u v reducesTo_S128x100000_S128_d1 h_S_ j).2),
  StableHlo.unary main_v13 main_v14 (broadcastInDim S128x1 ![0] bcast_S128_S128x1_0 : (⟨S128, .i32⟩ : BufTy).Contents (Elt F) → (⟨S128x1, .i32⟩ : BufTy).Contents (Elt F))]

abbrev refOps : List (HloOp τ sig (Elt F)) := normOps ++ (takeOps ++ modeOps)

theorem main_eq (d : Dev nD) : StableHlo.IsSeq (main (F := F) d) refOps := rfl

/-! ## The values -/

def rowMax (X : FVec F S128x100000 .f32) : FVec F S128 .f32 :=
  Host.reduce FloatOps.maximumf X (constant S_ .f32 0xFF800000#32) reducesTo_S128x100000_S128_d1 h_S_
def maxCol (X : FVec F S128x100000 .f32) : FVec F S128x1 .f32 := broadcastInDim S128x1 ![0] bcast_S128_S128x1_0 (rowMax X)
def expSum (X : FVec F S128x100000 .f32) : FVec F S128 .f32 :=
  Host.reduceAdd (Host.exp (subf X (broadcastInDim S128x100000 ![0, 1] bcast_S128x1_S128x100000_0_1 (maxCol X)))) (constant S_ .f32 0x00000000#32)
    reducesTo_S128x100000_S128_d1 h_S_
def lseCol (X : FVec F S128x100000 .f32) : FVec F S128x1 .f32 :=
  addf (Host.log (broadcastInDim S128x1 ![0] bcast_S128_S128x1_0 (expSum X))) (maxCol X)
/-- The normalised logits. -/
def norm (X : FVec F S128x100000 .f32) : FVec F S128x100000 .f32 :=
  subf X (broadcastInDim S128x100000 ![0, 1] bcast_S128x1_S128x100000_0_1 (lseCol X))

/-- The index array of the gather: the actions, a negative one counted from the end. -/
def idx (A : IVec S128x1 32) : IVec S128x1x1 32 :=
  shapeCast S128x1x1 (select (cmpi .slt A (broadcastInDim S128x1 ![] bcast_S_S128x1 (constantI S_ 32 0#32)))
    (addi A (broadcastInDim S128x1 ![] bcast_S_S128x1 (constantI S_ 32 100000#32))) A) shapeCasts_S128x1_S128x1x1
/-- Whether each index names a column. -/
def inside (I : IVec S128x1x1 32) : IVec S128x1 1 :=
  Host.reduce IntOp.andi
    (andi (cmpi .sge I (broadcastInDim S128x1x1 ![] bcast_S_S128x1x1 (constantI S_ 32 0#32)))
      (cmpi .sle I (broadcastInDim S128x1x1 ![0, 1, 2] bcast_S1x1x1_S128x1x1_0_1_2 (broadcastInDim S1x1x1 ![2] bcast_S1_S1x1x1_2 (constantI S1 32 99999#32)))))
    (constantI S_ 1 1#1) reducesTo_S128x1x1_S128x1_d2 h_S_
def take (N : FVec F S128x100000 .f32) (A : IVec S128x1 32) : FVec F S128x1 .f32 :=
  select (inside (idx A)) (Host.gather gather_S128x100000_S128x1x1_S128x1_n_1_0_0_1_2_11 N (idx A))
    (broadcastInDim S128x1 ![] bcast_S_S128x1 (constant S_ .f32 0x7FC00000#32))

def mode (N : FVec F S128x100000 .f32) : IVec S128x1 32 :=
  broadcastInDim S128x1 ![0] bcast_S128_S128x1_0 fun j =>
    (Host.argReduce reducer_argmax_f32_i32 (Host.exp N) (iotaInDim S128x100000 32 1) (constant S_ .f32 0xFF800000#32) (constantI S_ 32 0#32)
      reducesTo_S128x100000_S128_d1 h_S_ j).2

open StableHlo in
theorem v11_eq (V : Valuation τ sig (Elt F)) : after refOps V (Proc.devRef .tc main_v11) = take (norm (V (Proc.devRef .tc main_arg0))) (V (Proc.devRef .tc main_arg1)) := by
  simp only [refOps, normOps, takeOps, modeOps, List.cons_append, List.nil_append]
  after_results
  rfl
open StableHlo in
theorem v14_eq (V : Valuation τ sig (Elt F)) : after refOps V (Proc.devRef .tc main_v14) = mode (norm (V (Proc.devRef .tc main_arg0))) := by
  simp only [refOps, normOps, takeOps, modeOps, List.cons_append, List.nil_append]
  after_results
  rfl
open StableHlo in
theorem arg0_eq (V : Valuation τ sig (Elt F)) : after refOps V (Proc.devRef .tc main_arg0) = V (Proc.devRef .tc main_arg0) := by
  simp only [refOps, normOps, takeOps, modeOps, List.cons_append, List.nil_append]
  after_results
open StableHlo in
theorem arg1_eq (V : Valuation τ sig (Elt F)) : after refOps V (Proc.devRef .tc main_arg1) = V (Proc.devRef .tc main_arg1) := by
  simp only [refOps, normOps, takeOps, modeOps, List.cons_append, List.nil_append]
  after_results

/-! ## The run -/

open StableHlo in
theorem run_ref (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after refOps (launchContents m d) (Proc.devRef .tc b) :=
  run_hlo _ _ main_eq (by decide) (by decide) (by simp [refOps, normOps, takeOps, modeOps])
    (by
      simp only [refOps, normOps, takeOps, modeOps, List.cons_append, List.nil_append]
      intro _ h; (repeat (cases h with | head => rfl | tail _ h => ?_)); exact nomatch h) m ρ

end Cert.Proof.Ref
-- ==== Proof.Frames.lean ====
/-
  The frames: the program as printed and its idealization run, leave their arguments, and end with every counter at
  zero. Both from the one run, the two programs having the same text.
-/
module

public import proofs.«01_k».proof.Proof.Main
public import proofs.«01_k».proof.Proof.Reference
public import proofs.«01_k».proof.Proof.Gen.Kernel
public import proofs.«01_k».proof.Proof.Gen.ReferenceIdeal
public import proofs.«01_k».proof.Proof.Gen.Pre_actions_in_range

@[expose] public section

noncomputable section

namespace Cert.Proof.Frames

open Cert.KernelIdeal Cert.Proof.Run
open Idealize.ShloMosaic Idealize.SL.Sem

/-- The conjunction of the two comparisons at one word is true only of the words below 100000. -/
theorem below_of_tests (v : BitVec 32) (e : IntOp.andi (IntOp.cmpi .sge v 0#32) (IntOp.cmpi .slt v 100000#32) = 1#1) : v.toNat < 100000 := by
  have hand (p q : Bool) : IntOp.andi (BitVec.ofBool p) (BitVec.ofBool q) = BitVec.ofBool (p && q) := by
    cases p <;> cases q <;> decide
  have hone (p : Bool) (h : BitVec.ofBool p = 1#1) : p = true := by revert h; cases p <;> decide
  simp only [IntOp.cmpi, hand] at e
  have e' := hone _ e
  rw [Bool.and_eq_true, BitVec.sle_eq_decide, BitVec.slt_eq_decide, decide_eq_true_eq, decide_eq_true_eq] at e'
  simp only [BitVec.toInt_eq_toNat_cond, BitVec.toNat_ofNat, Nat.reducePow, Nat.reduceMod] at e'
  omega

theorem preOK_of_range {F : FTy → Type} [FloatOps F] (m : (ℓ : Loc nD τ sig) → Buf (Elt F) ℓ)
    (h : ∀ c : Dev nD, Cert.Pre_actions_in_range.fn (F := F) (m (xLoc c)) (m (aLoc c)) = fun _ => 1#1) : PreOK m := by
  intro d j
  have e := congrFun (h d) j
  simp only [Pre_actions_in_range.fn, andi, cmpi, broadcastInDim, constantI] at e
  exact below_of_tests _ e

/-- The two programs' kernels are the same, label by label. -/
theorem tables_agree : Cert.Kernel.defs₀ (F := Bits) = Cert.KernelIdeal.defs₀ (F := Bits) := by
  funext p ℓ a
  cases p with
  | tc => fin_cases ℓ <;> rfl
  | scScalar c => fin_cases ℓ <;> rfl
  | scVector c i => fin_cases ℓ <;> rfl

theorem defs_agree : Cert.Kernel.defs (F := Bits) = Cert.KernelIdeal.defs (F := Bits) :=
  congrArg (fun t => (Cert.KernelIdeal.sc (F := Bits)).defs (Pipeline.defs Cert.KernelIdeal.pcfgs t)) tables_agree

theorem frame_kernel : Cert.quiescent_Kernel := fun m ρ hpre => by
  rw [defs_agree]
  exact (θ_run Cert.KernelIdeal.defs _ _).mono (fun _ h => ⟨fun c => ⟨(h.1 c).1, (h.1 c).2.1⟩, h.2⟩) (run_main (F := Bits) m ρ (preOK_of_range m hpre))

theorem frame_ideal : Cert.quiescent_KernelIdeal := fun m ρ hpre =>
  (θ_run Cert.KernelIdeal.defs _ _).mono (fun _ h => ⟨fun c => ⟨(h.1 c).1, (h.1 c).2.1⟩, h.2⟩) (run_main (F := Ideal) m ρ (preOK_of_range m hpre))

/-- The reference has no semaphore. -/
theorem no_sems (f : GSem Cert.ReferenceIdeal.nD Cert.ReferenceIdeal.τ Cert.ReferenceIdeal.sig → ℤ) : f = fun _ => 0 := by
  funext g
  obtain ⟨_, s⟩ := g
  cases s with
  | reg i => exact i.elim0
  | dma i => exact i.elim0

theorem frame_ref : Cert.quiescent_ReferenceIdeal := fun m ρ _ =>
  (θ_run Cert.ReferenceIdeal.defs _ _).mono
    (fun _ h => ⟨fun c => ⟨(h c _).trans (Ref.arg0_eq _), (h c _).trans (Ref.arg1_eq _)⟩, no_sems _⟩) (Ref.run_ref (F := Ideal) m ρ)

end Cert.Proof.Frames
-- ==== Proof.Finite.lean ====
/-
  The frames under the second precondition: finite logits and actions in range.
-/
module

public import Idealize.ShloMosaic.Lib.ReduceAll
public import proofs.«01_k».proof.Proof.Frames
public import proofs.«01_k».proof.Proof.Gen.Pre_finite_logits

@[expose] public section

noncomputable section

namespace Cert.Proof.Frames

open Cert.KernelIdeal Cert.Proof.Run
open Idealize.ShloMosaic Idealize.SL.Sem

theorem frame_ref_finite : Cert.quiescent_ReferenceIdeal_pre_finite_logits := fun m ρ _ => frame_ref m ρ trivial

/-- An extended real whose absolute value is below the pattern of plus infinity is a real number. -/
theorem real_of_test (x : EReal) (e : FloatOps.cmpf (F := Ideal) (φ := .f32) .olt (max x (-x)) (Ideal.ofBits .f32 0x7F800000#32) = 1#1) :
    x ≠ ⊤ ∧ x ≠ ⊥ := by
  have top : Ideal.ofBits .f32 0x7F800000#32 = ⊤ := by simp [Ideal.ofBits, Ideal.ieee]
  rw [top] at e
  have e' : max x (-x) < ⊤ := by
    by_contra hn
    change Ideal.cmp .olt (max x (-x)) ⊤ = 1#1 at e
    simp [Ideal.cmp, hn] at e
  constructor
  · rintro rfl; simp at e'
  · rintro rfl; simp at e'

/-- Finite logits under the second precondition, and the actions in range. -/
theorem both_of_pre (X : FVec Ideal S128x100000 .f32) (A : IVec S128x1 32) (h : Cert.Pre_finite_logits.fn (F := Ideal) X A = fun _ => 1#1) :
    (∀ i, X i ≠ (⊤ : EReal) ∧ X i ≠ (⊥ : EReal)) ∧ ∀ j, (A j).toNat < 100000 := by
  have e := congrFun h (fun k => k.elim0)
  simp only [Cert.Pre_finite_logits.fn, andi] at e
  obtain ⟨e₀, e₁⟩ := IntOp.andi_eq_one.1 e
  haveI : Subsingleton (Cert.Pre_finite_logits.S_).Idx := ⟨fun a b => funext fun k => k.elim0⟩
  refine ⟨fun i => ?_, fun j => ?_⟩
  · exact real_of_test _ (Host.reduce_andi_all _ _ _ _ _ e₀ i)
  · exact below_of_tests _ (Host.reduce_andi_all _ _ _ _ _ e₁ j)

theorem preOK_of_finite (m : (ℓ : Loc nD τ sig) → Buf (Elt Ideal) ℓ) (h : Cert.Pre_KernelIdeal_finite_logits m) : PreOK m :=
  fun d => (both_of_pre _ _ (h d)).2

theorem frame_ideal_finite : Cert.quiescent_KernelIdeal_pre_finite_logits := fun m ρ hpre =>
  (θ_run Cert.KernelIdeal.defs _ _).mono (fun _ h => ⟨fun c => ⟨(h.1 c).1, (h.1 c).2.1⟩, h.2⟩) (run_main (F := Ideal) m ρ (preOK_of_finite m hpre))

end Cert.Proof.Frames
-- ==== Proof.Math.lean ====
/-
  The mathematics of one row: the first largest entry, read off the lanes; the logarithm of a sum of exponentials, which
  does not depend on the shift; folds by maximum and by signed minimum.
-/
module

public import Idealize.ShloMosaic.PureOps.Ideal
public import Idealize.ShloMosaic.PureOps.Reduce
public import Mathlib.Analysis.SpecialFunctions.Log.Basic
public import Mathlib.Algebra.BigOperators.Intervals

@[expose] public section

noncomputable section

namespace Cert.Proof.Math

open Idealize.ShloMosaic

/-! ## The first largest entry -/

/-- `J` is the first index below `n` at which `y` is largest. -/
def Best (n : ℕ) (y : ℕ → ℝ) (J : ℕ) : Prop := J < n ∧ ∀ j < n, y j < y J ∨ (y j = y J ∧ J ≤ j)

theorem Best.unique {n : ℕ} {y : ℕ → ℝ} {J K : ℕ} (hJ : Best n y J) (hK : Best n y K) : J = K := by
  rcases hJ.2 K hK.1 with h | h <;> rcases hK.2 J hJ.1 with h' | h'
  · exact absurd h' (not_lt.2 h.le)
  · exact absurd h'.1 h.ne'
  · exact absurd h.1 h'.ne'
  · exact le_antisymm h.2 h'.2

theorem Best.le {n : ℕ} {y : ℕ → ℝ} {J : ℕ} (h : Best n y J) {j : ℕ} (hj : j < n) : y j ≤ y J := by
  rcases h.2 j hj with h | h
  · exact h.le
  · exact h.1.le

theorem Best.one (y : ℕ → ℝ) : Best 1 y 0 := ⟨Nat.one_pos, fun j hj => .inr ⟨by rw [Nat.lt_one_iff.1 hj], Nat.zero_le j⟩⟩

/-- A strictly larger next entry takes over. -/
theorem Best.take {n : ℕ} {y : ℕ → ℝ} {J : ℕ} (h : Best n y J) (hy : y J < y n) : Best (n + 1) y n :=
  ⟨Nat.lt_succ_self n, fun j hj => by
    rcases Nat.lt_succ_iff_lt_or_eq.1 hj with hj | rfl
    · exact .inl ((h.le hj).trans_lt hy)
    · exact .inr ⟨rfl, le_rfl⟩⟩

/-- A next entry that is not larger does not. -/
theorem Best.keep {n : ℕ} {y : ℕ → ℝ} {J : ℕ} (h : Best n y J) (hy : y n ≤ y J) : Best (n + 1) y J :=
  ⟨h.1.trans (Nat.lt_succ_self n), fun j hj => by
    rcases Nat.lt_succ_iff_lt_or_eq.1 hj with hj | rfl
    · exact h.2 j hj
    · rcases hy.lt_or_eq with hy | hy
      · exact .inl hy
      · exact .inr ⟨hy, h.1.le⟩⟩

/-- Strictly increasing functions keep the first largest entry. -/
theorem Best.of_map {n : ℕ} {y z : ℕ → ℝ} {J : ℕ} (hlt : ∀ i j, z i < z j → y i < y j) (heq : ∀ i j, z i = z j → y i = y j)
    (h : Best n z J) : Best n y J :=
  ⟨h.1, fun j hj => (h.2 j hj).imp (hlt j J) fun e => ⟨heq j J e.1, e.2⟩⟩

/-- How many entries of the row lane `l` meets: 782 in the first 32 lanes, 781 in the others. -/
def cnt (l : ℕ) : ℕ := if l < 32 then 782 else 781

/-- The first largest of a row from its lanes' first largest: lane `l` meets the entries `128 q + l`. -/
theorem best_of_lanes (y : ℕ → ℝ) (q : ℕ → ℕ) (hq : ∀ l < 128, Best (cnt l) (fun k => y (128 * k + l)) (q l))
    (l : ℕ) (hl : l < 128) (hmax : ∀ l' < 128, y (128 * q l' + l') ≤ y (128 * q l + l))
    (hmin : ∀ l' < 128, y (128 * q l' + l') = y (128 * q l + l) → 128 * q l + l ≤ 128 * q l' + l') :
    Best 100000 y (128 * q l + l) := by
  have hl1 := (hq l hl).1
  refine ⟨by unfold cnt at hl1; split at hl1 <;> omega, fun j hj => ?_⟩
  have hl' : j % 128 < 128 := Nat.mod_lt _ (by decide)
  have hj' : 128 * (j / 128) + j % 128 = j := Nat.div_add_mod j 128
  have hc : j / 128 < cnt (j % 128) := by unfold cnt; split <;> omega
  have hb := (hq _ hl').2 _ hc
  simp only [hj'] at hb
  have hm := hmax _ hl'
  rcases hb with hb | ⟨hb, hle⟩
  · exact .inl (hb.trans_le hm)
  · rcases hm.lt_or_eq with hm' | hm'
    · exact .inl (hb.trans_lt hm')
    · have := hmin _ hl' hm'
      exact .inr ⟨hb.trans hm', by omega⟩

/-! ## The logarithm of a sum of exponentials -/

/-- The logarithm of the sum of a row's exponentials. -/
def lse (n : ℕ) (y : ℕ → ℝ) : ℝ := Real.log (∑ j ∈ Finset.range n, Real.exp (y j))

theorem sum_exp_pos {n : ℕ} (hn : 0 < n) (y : ℕ → ℝ) : 0 < ∑ j ∈ Finset.range n, Real.exp (y j) :=
  Finset.sum_pos (fun _ _ => Real.exp_pos _) ⟨0, Finset.mem_range.2 hn⟩

/-- It does not depend on the shift it is taken with. -/
theorem lse_shift {n : ℕ} (hn : 0 < n) (y : ℕ → ℝ) (c : ℝ) :
    Real.log (∑ j ∈ Finset.range n, Real.exp (y j - c)) + c = lse n y := by
  have e : ∑ j ∈ Finset.range n, Real.exp (y j - c) = (∑ j ∈ Finset.range n, Real.exp (y j)) * Real.exp (-c) := by
    rw [Finset.sum_mul]
    exact Finset.sum_congr rfl fun j _ => by rw [← Real.exp_add, sub_eq_add_neg]
  rw [e, Real.log_mul (sum_exp_pos hn y).ne' (Real.exp_pos _).ne', Real.log_exp, lse]
  ring

theorem coe_sum {ι : Type} (s : Finset ι) (f : ι → ℝ) : ((∑ j ∈ s, f j : ℝ) : EReal) = ∑ j ∈ s, ((f j : ℝ) : EReal) := by
  classical
  induction s using Finset.cons_induction with
  | empty => simp
  | cons a s ha ih => rw [Finset.sum_cons, Finset.sum_cons, EReal.coe_add, ih]

/-- The sum over the lanes' entries is the sum over the row. -/
theorem sum_lanes (f : ℕ → ℝ) :
    ∑ l ∈ Finset.range 128, ∑ k ∈ Finset.range (cnt l), f (128 * k + l) = ∑ j ∈ Finset.range 100000, f j := by
  rw [Finset.sum_sigma']
  refine Finset.sum_nbij' (fun p => 128 * p.2 + p.1) (fun j => ⟨j % 128, j / 128⟩) ?_ ?_ ?_ ?_ ?_
  · rintro ⟨l, k⟩ h
    simp only [Finset.mem_sigma, Finset.mem_range] at h ⊢
    have := h.2; unfold cnt at this; split at this <;> omega
  · intro j h
    simp only [Finset.mem_sigma, Finset.mem_range] at h ⊢
    refine ⟨Nat.mod_lt _ (by decide), ?_⟩
    unfold cnt; split <;> omega
  · rintro ⟨l, k⟩ h
    simp only [Finset.mem_sigma, Finset.mem_range] at h
    have h1 : (128 * k + l) % 128 = l := by omega
    have h2 : (128 * k + l) / 128 = k := by omega
    simp only [h1, h2]
  · intro j _
    exact Nat.div_add_mod j 128
  · intro _ _; rfl

/-! ## Folds -/

/-- A fold by maximum from minus infinity over a nonempty set is one of the entries, and the largest. -/
theorem fold_max_spec {ι : Type} [Fintype ι] [Nonempty ι] (f : ι → EReal) :
    (∃ i, (Finset.univ : Finset ι).fold max ⊥ f = f i) ∧ ∀ i, f i ≤ (Finset.univ : Finset ι).fold max ⊥ f := by
  rw [show (Finset.univ : Finset ι).fold max ⊥ f = Finset.univ.sup f from rfl]
  refine ⟨?_, fun i => Finset.le_sup (Finset.mem_univ i)⟩
  obtain ⟨i, -, h⟩ := Finset.exists_mem_eq_sup (Finset.univ : Finset ι) Finset.univ_nonempty f
  exact ⟨i, h⟩

/-- A word below 2 ^ 31 reads the same signed and unsigned. -/
theorem toInt_of_small {v : BitVec 32} (h : v.toNat < 2147483648) : v.toInt = (v.toNat : ℤ) := by
  rw [BitVec.toInt_eq_toNat_cond, if_pos (by omega)]

/-- A fold by signed minimum over words that are not negative is the first word or one of the entries, and is at most each. -/
theorem fold_minsi_spec {ι : Type} (f : ι → BitVec 32) (b : BitVec 32) (hb : b.toNat < 2147483648) (s : Finset ι)
    (hf : ∀ i ∈ s, (f i).toNat < 2147483648) :
    (s.fold IKind.minsi.op b f = b ∨ ∃ i ∈ s, s.fold IKind.minsi.op b f = f i)
      ∧ (s.fold IKind.minsi.op b f).toNat ≤ b.toNat ∧ ∀ i ∈ s, (s.fold IKind.minsi.op b f).toNat ≤ (f i).toNat := by
  classical
  induction s using Finset.cons_induction with
  | empty => exact ⟨.inl rfl, le_rfl, fun i hi => absurd hi (Finset.notMem_empty i)⟩
  | cons a s ha ih =>
    rw [Finset.fold_cons]
    obtain ⟨h1, h2, h3⟩ := ih fun i hi => hf i (Finset.mem_cons_of_mem hi)
    generalize s.fold IKind.minsi.op b f = r at h1 h2 h3
    have hfa := hf a (Finset.mem_cons_self a s)
    have hop : IKind.minsi.op (f a) r = if (f a).toNat < r.toNat then f a else r := by
      have hr : r.toNat < 2147483648 := h2.trans_lt hb
      simp only [IKind.op, IntOp.minsi]
      rw [BitVec.slt_eq_decide, toInt_of_small hfa, toInt_of_small hr]
      simp only [decide_eq_true_eq, Nat.cast_lt]
    rw [hop]
    split
    · next hlt =>
      have hle := hlt.le
      refine ⟨.inr ⟨a, Finset.mem_cons_self a s, rfl⟩, hle.trans h2, fun i hi => ?_⟩
      rcases Finset.mem_cons.1 hi with rfl | hi
      · exact le_rfl
      · exact hle.trans (h3 i hi)
    · next hle =>
      refine ⟨h1.imp_right fun ⟨i, hi, e⟩ => ⟨i, Finset.mem_cons_of_mem hi, e⟩, h2, fun i hi => ?_⟩
      rcases Finset.mem_cons.1 hi with rfl | hi
      · omega
      · exact h3 i hi

end Cert.Proof.Math
-- ==== Proof.Block.lean ====
/-
  One row of one block at the ideal values: what the loop's state holds in each lane, and what the body makes of it. The
  row's entries are the real numbers `y 0, y 1, …`.
-/
module

public import proofs.«01_k».proof.Proof.Reduce
public import proofs.«01_k».proof.Proof.Math
public import Idealize.ShloMosaic.PureOps.Ideal.Laws
public import Idealize.ShloMosaic.Lib.Pipeline.Value

@[expose] public section

noncomputable section

namespace Cert.Proof.Block

open Cert.KernelIdeal Cert.KernelIdeal.Gen Cert.Proof.Run Cert.Proof.Math
open Idealize.ShloMosaic Idealize.ShloMosaic.ValueIdx

/-! ## Constants -/

theorem neg_inf : Ideal.ofBits .f32 0xFF800000#32 = ⊥ := by simp [Ideal.ofBits, Ideal.ieee]
theorem zero_f32 : Ideal.ofBits .f32 0x00000000#32 = ((0 : ℝ) : EReal) := by simp [Ideal.ofBits, Ideal.ieee]
theorem twenty : Ideal.ofBits .f32 0x41A00000#32 = ((20 : ℝ) : EReal) := by
  simp [Ideal.ofBits, Ideal.ieee]
  rw [← EReal.coe_mul]
  norm_num

theorem trips_eq : k1_t1_loop.trips = 781 := by decide +kernel

/-! ## A lane -/

/-- After `n` entries of a lane: the running maximum `v` and the number `w` of the first entry that attains it. -/
def Lane (n : ℕ) (y : ℕ → ℝ) (v : EReal) (w : BitVec 32) : Prop :=
  (n = 0 ∧ v = ⊥) ∨ (Best n y w.toNat ∧ v = ((y w.toNat : ℝ) : EReal))

theorem Lane.step {n : ℕ} {y : ℕ → ℝ} {v : EReal} {w : BitVec 32} (h : Lane n y v w) (c : BitVec 32) (hc : c.toNat = n) :
    Lane (n + 1) y (max v ((y n : ℝ) : EReal)) (Scalar.select (Ideal.cmp .ogt ((y n : ℝ) : EReal) v) c w) := by
  have sel : Scalar.select (Ideal.cmp .ogt ((y n : ℝ) : EReal) v) c w = if v < ((y n : ℝ) : EReal) then c else w := by
    unfold Scalar.select Ideal.cmp
    by_cases hlt : v < ((y n : ℝ) : EReal) <;> simp [hlt]
  rw [sel]
  rcases h with ⟨rfl, rfl⟩ | ⟨h, rfl⟩
  · rw [if_pos (EReal.bot_lt_coe _), max_eq_right bot_le]
    refine .inr ?_
    rw [hc]
    exact ⟨Best.one y, rfl⟩
  · by_cases hlt : y w.toNat < y n
    · rw [if_pos (EReal.coe_lt_coe_iff.2 hlt), max_eq_right (EReal.coe_le_coe_iff.2 hlt.le)]
      refine .inr ?_
      rw [hc]
      exact ⟨h.take hlt, rfl⟩
    · rw [if_neg fun e => hlt (EReal.coe_lt_coe_iff.1 e), max_eq_left (EReal.coe_le_coe_iff.2 (not_lt.1 hlt))]
      exact .inr ⟨h.keep (not_lt.1 hlt), rfl⟩

variable (X : Vec Ideal S16x100000 .f32) (i : Fin 16) (y : ℕ → ℝ)

/-- The block's row `i` is `y`. -/
def IsRow : Prop := ∀ j (h : j < 100000), X (ix2 i ⟨j, h⟩) = ((y j : ℝ) : EReal)

variable {X i y}

theorem chunk_at (hX : IsRow X i y) (k : ℕ) (hk : k < 781) (l : Fin 128) : chunk X k (ix2 i l) = ((y (128 * k + l.val) : ℝ) : EReal) := by
  have hl := l.isLt
  have e : (128 * k + l.val) % 100000 = 128 * k + l.val := Nat.mod_eq_of_lt (by omega)
  refine (hX ((128 * k + l.val) % 100000) (Nat.mod_lt _ (by decide))).trans ?_
  rw [e]

theorem tail_at (hX : IsRow X i y) (l : Fin 32) : tail X (ix2 i l) = ((y (128 * 781 + l.val) : ℝ) : EReal) := by
  have hl := l.isLt
  rw [show 128 * 781 + l.val = 99968 + l.val by omega]
  exact hX (99968 + l.val) (by omega)

/-- The loop's state in lane `l` of row `i` before trip `k`. -/
theorem state_at (hX : IsRow X i y) (l : Fin 128) : ∀ k : ℕ, k ≤ 781 →
    Lane k (fun q => y (128 * q + l.val)) ((st X k).1 (ix2 i l)) ((st X k).2.1 (ix2 i l))
      ∧ (st X k).2.2 (ix2 i l) = ((∑ q ∈ Finset.range k, Real.exp (y (128 * q + l.val) - 20) : ℝ) : EReal)
  | 0, _ => ⟨.inl ⟨rfl, neg_inf⟩, by rw [Finset.sum_range_zero]; exact zero_f32⟩
  | k + 1, hk => by
    obtain ⟨h1, h2⟩ := state_at hX l k (by omega)
    have ht : k < k1_t1_loop.trips := by rw [trips_eq]; omega
    have e := chunk_at hX k (by omega) l
    rw [show st X (k + 1) = trip ⟨k, ht⟩ (chunk X k) (st X k) from st_succ X ⟨k, ht⟩]
    have hc : (Scf.iv 0#32 1#32 k).toNat = k := by
      simp only [Scf.iv, BitVec.zero_add, BitVec.mul_one, BitVec.toNat_ofNat]
      exact Nat.mod_eq_of_lt (by omega)
    constructor
    · have h := h1.step (Scf.iv 0#32 1#32 k) hc
      rw [← e] at h
      exact h
    · show (st X k).2.2 (ix2 i l) + Ideal.exp (chunk X k (ix2 i l) - Ideal.ofBits .f32 0x41A00000#32) = _
      rw [h2, e, twenty, ← EReal.coe_sub, Ideal.exp_coe, ← EReal.coe_add, Finset.sum_range_succ]

/-! ## After the loop -/

theorem pad_left (hX : IsRow X i y) (l : Fin 128) (hl : l.val < 32) : k1_pay7 (tail X) (ix2 i l) = ((y (128 * 781 + l.val) : ℝ) : EReal) := by
  refine Eq.trans ?_ (tail_at hX ⟨l.val, hl⟩)
  exact concatenate_pair_apply_left (t := S16x128) (s₁ := S16x32) (s₂ := S16x96) (1 : Fin 2) (tail X)
    (broadcast S16x96 (Scalar.ofBits (F := Ideal) .f32 0xFF800000#32)) concatenates_S16x32_S16x96_S16x128_d1 (ix2 i l) rfl (ix2 i ⟨l.val, hl⟩) (fun b => by fin_cases b <;> rfl)

theorem pad_right (l : Fin 128) (hl : ¬ l.val < 32) : k1_pay7 (tail X) (ix2 i l) = (⊥ : EReal) := by
  have hl' := l.isLt
  refine Eq.trans ?_ neg_inf
  refine concatenate_pair_apply_right (t := S16x128) (s₁ := S16x32) (s₂ := S16x96) (1 : Fin 2) (tail X)
    (broadcast S16x96 (Scalar.ofBits (F := Ideal) .f32 0xFF800000#32)) concatenates_S16x32_S16x96_S16x128_d1 (ix2 i l) rfl rfl (ix2 i ⟨l.val - 32, by omega⟩) (fun b hb => ?_) ?_
  · fin_cases b
    · rfl
    · exact absurd rfl hb
  · show l.val - 32 + 32 = l.val
    omega

/-- The lane's maximum and its chunk's number once the last columns are in. -/
def finalV (X : Vec Ideal S16x100000 .f32) : FVec Ideal S16x128 .f32 := maximumf (st X k1_t1_loop.trips).1 (k1_pay7 (tail X))
def finalQ (X : Vec Ideal S16x100000 .f32) : IVec S16x128 32 :=
  select (cmpf .ogt (k1_pay7 (tail X)) (st X k1_t1_loop.trips).1) (broadcast S16x128 781#32) (st X k1_t1_loop.trips).2.1

theorem final_at (hX : IsRow X i y) (l : Fin 128) :
    Best (cnt l.val) (fun q => y (128 * q + l.val)) (finalQ X (ix2 i l)).toNat
      ∧ finalV X (ix2 i l) = ((y (128 * (finalQ X (ix2 i l)).toNat + l.val) : ℝ) : EReal) := by
  have h := (state_at hX l 781 le_rfl).1
  rw [← trips_eq] at h
  have hv : finalV X (ix2 i l) = max ((st X k1_t1_loop.trips).1 (ix2 i l)) (k1_pay7 (tail X) (ix2 i l)) := rfl
  have hq : finalQ X (ix2 i l) = Scalar.select (Ideal.cmp .ogt (k1_pay7 (tail X) (ix2 i l)) ((st X k1_t1_loop.trips).1 (ix2 i l)))
      781#32 ((st X k1_t1_loop.trips).2.1 (ix2 i l)) := rfl
  rw [hv, hq]
  by_cases hl : l.val < 32
  · rw [pad_left hX l hl]
    have h' := h.step 781#32 (by rw [trips_eq]; rfl)
    rw [trips_eq] at h'
    rw [show cnt l.val = 782 from if_pos hl]
    rcases h' with ⟨h0, -⟩ | h'
    · exact absurd h0 (by omega)
    · rw [trips_eq]; exact h'
  · rw [pad_right l hl]
    have sel (v : EReal) (w : BitVec 32) : Scalar.select (Ideal.cmp .ogt ⊥ v) 781#32 w = w := by
      simp [Scalar.select, Ideal.cmp]
    rw [sel, max_eq_left bot_le, show cnt l.val = 781 from if_neg hl]
    rw [trips_eq] at h ⊢
    rcases h with ⟨h0, -⟩ | h
    · exact absurd h0 (by omega)
    · exact h

/-! ## The mode -/

theorem lift_eq (i : Fin 16) (l : Fin 128) : (reduces_S16x128_S16).lift (ix1 i) l = ix2 i l := by
  funext a; fin_cases a <;> rfl

/-- The row's maximum over its lanes. -/
def top (X : Vec Ideal S16x100000 .f32) : FVec Ideal S16 .f32 :=
  multiReduction .maximumf [1] S16 (finalV X) 0xFF800000#32 reduces_S16x128_S16 (.inl rfl) rfl

theorem top_at (i : Fin 16) : top X (ix1 i) = (Finset.univ : Finset (Fin 128)).fold max ⊥ fun l => finalV X (ix2 i l) := by
  have e : top X (ix1 i) = (Finset.univ : Finset (Fin 128)).fold max (Ideal.ofBits .f32 0xFF800000#32) (finalV X ∘ (reduces_S16x128_S16).lift (ix1 i)) :=
    Ideal.multiReduction_maximumf_single (finalV X) 0xFF800000#32 reduces_S16x128_S16 (.inl rfl) rfl (ix1 i)
  have f : (finalV X ∘ (reduces_S16x128_S16).lift (ix1 i) : Fin 128 → EReal) = fun l => finalV X (ix2 i l) :=
    funext fun l => congrArg (finalV X) (lift_eq i l)
  rw [e, neg_inf]
  exact congrArg (fun f : Fin 128 → EReal => (Finset.univ : Finset (Fin 128)).fold max ⊥ f) f

/-- The column a lane offers: that of its first largest entry where the lane attains the row's maximum, else a number past every column. -/
def offer (X : Vec Ideal S16x100000 .f32) (i : Fin 16) (l : Fin 128) : BitVec 32 :=
  Scalar.select (Ideal.cmp .oeq (finalV X (ix2 i l)) (top X (ix1 i))) (finalQ X (ix2 i l) * 128#32 + BitVec.ofNat 32 l.val) 1073741824#32

/-- What the lanes offer, as the body spells it. -/
def offers (X : Vec Ideal S16x100000 .f32) : IVec S16x128 32 :=
  select (cmpf .oeq (finalV X) (broadcastTo S16x128 (shapeCast S16x1 (top X) shapeCasts_S16_S16x1) broadcasts_S16x1_S16x128))
    (addi (muli (finalQ X) (broadcast S16x128 128#32)) (iota .tc S16x128 32 [1] iota_S16x128_d1_w32)) (broadcast S16x128 1073741824#32)

theorem moBlk_eq (X : Vec Ideal S16x100000 .f32) :
    moBlk X = shapeCast S16x1 (multiReductionI .minsi [1] S16 (offers X) 2147483647#32 reduces_S16x128_S16 rfl) shapeCasts_S16_S16x1 := rfl

theorem offers_at (i : Fin 16) (l : Fin 128) : offers X (ix2 i l) = offer X i l := by
  have hb : broadcastTo S16x128 (shapeCast S16x1 (top X) shapeCasts_S16_S16x1) broadcasts_S16x1_S16x128 (ix2 i l) = top X (ix1 i) := by
    refine (broadcastTo_apply _ _ _ (ix2 i 0) (fun a => by fin_cases a <;> rfl)).trans ?_
    exact shapeCast_apply _ _ (ix2 i 0) (ix1 i) (by simp [Shape.rowMajor_val_one, Shape.rowMajor_val_two])
  have hi : iota .tc S16x128 32 [1] iota_S16x128_d1_w32 (ix2 i l) = BitVec.ofNat 32 l.val := by
    show BitVec.ofNat 32 (0 * 128 + l.val) = _
    rw [Nat.zero_mul, Nat.zero_add]
  have ho : offers X (ix2 i l) = Scalar.select (Ideal.cmp .oeq (finalV X (ix2 i l)) (broadcastTo S16x128 (shapeCast S16x1 (top X) shapeCasts_S16_S16x1) broadcasts_S16x1_S16x128 (ix2 i l)))
      (finalQ X (ix2 i l) * 128#32 + iota .tc S16x128 32 [1] iota_S16x128_d1_w32 (ix2 i l)) 1073741824#32 := by
    simp only [offers, select, cmpf, addi, muli, broadcast, IntOp.addi, IntOp.muli, Ideal.cmpf_def]
  rw [ho, hb, hi, offer]

/-- A row's signed minimum over its lanes. -/
theorem min_at (V : IVec S16x128 32) (i : Fin 16) :
    multiReductionI .minsi [1] S16 V 2147483647#32 reduces_S16x128_S16 rfl (ix1 i)
      = (Finset.univ : Finset (Fin 128)).fold IKind.minsi.op 2147483647#32 fun l => V (ix2 i l) := by
  have e : multiReductionI .minsi [1] S16 V 2147483647#32 reduces_S16x128_S16 rfl (ix1 i)
      = (Finset.univ : Finset (Fin 128)).fold IKind.minsi.op 2147483647#32 (V ∘ (reduces_S16x128_S16).lift (ix1 i)) :=
    (multiReductionI_eq_fold .minsi V 2147483647#32 reduces_S16x128_S16 rfl (ix1 i)).trans
      ((reduces_S16x128_S16).fold_filter_drop_single IKind.minsi.op 2147483647#32 V (ix1 i))
  have f : (V ∘ (reduces_S16x128_S16).lift (ix1 i) : Fin 128 → BitVec 32) = fun l => V (ix2 i l) :=
    funext fun l => congrArg V (lift_eq i l)
  exact e.trans (congrArg (fun f : Fin 128 → BitVec 32 => (Finset.univ : Finset (Fin 128)).fold IKind.minsi.op 2147483647#32 f) f)

theorem moBlk_at (i : Fin 16) : moBlk X (ix2 i 0) = (Finset.univ : Finset (Fin 128)).fold IKind.minsi.op 2147483647#32 (offer X i) := by
  rw [moBlk_eq]
  refine (shapeCast_apply _ _ (ix2 i 0) (ix1 i) (by simp [Shape.rowMajor_val_one, Shape.rowMajor_val_two])).trans ?_
  refine (min_at (offers X) i).trans ?_
  simp only [offers_at]

theorem mo_best (hX : IsRow X i y) : Best 100000 y (moBlk X (ix2 i 0)).toNat := by
  rw [moBlk_at]
  have hfin := final_at hX
  obtain ⟨⟨l₀, hl₀⟩, hle⟩ := fold_max_spec fun l : Fin 128 => finalV X (ix2 i l)
  rw [← top_at] at hl₀ hle
  -- what a lane offers
  have hoff (l : Fin 128) : offer X i l = if finalV X (ix2 i l) = top X (ix1 i) then finalQ X (ix2 i l) * 128#32 + BitVec.ofNat 32 l.val else 1073741824#32 := by
    unfold offer Scalar.select Ideal.cmp
    by_cases he : finalV X (ix2 i l) = top X (ix1 i) <;> simp [he]
  have hq (l : Fin 128) : (finalQ X (ix2 i l)).toNat < 782 := by
    have := (hfin l).1.1; unfold cnt at this; split at this <;> omega
  have hnum (l : Fin 128) : (finalQ X (ix2 i l) * 128#32 + BitVec.ofNat 32 l.val).toNat = 128 * (finalQ X (ix2 i l)).toNat + l.val := by
    have h1 := hq l
    have h2 := l.isLt
    simp only [BitVec.toNat_add, BitVec.toNat_mul, BitVec.toNat_ofNat]
    omega
  have hsmall (l : Fin 128) : (offer X i l).toNat < 2147483648 := by
    rw [hoff]
    split
    · rw [hnum]; have := hq l; have := l.isLt; omega
    · decide
  obtain ⟨hmem, hb, hmin⟩ := fold_minsi_spec (offer X i) 2147483647#32 (by decide) Finset.univ fun l _ => hsmall l
  have h₀ := hmin l₀ (Finset.mem_univ _)
  rw [hoff l₀, if_pos hl₀.symm, hnum] at h₀
  have hq₀ := hq l₀
  have hlt₀ := l₀.isLt
  -- the minimum is a lane's offer, and that lane attains the maximum
  obtain ⟨l, hl⟩ : ∃ l, (Finset.univ : Finset (Fin 128)).fold IKind.minsi.op 2147483647#32 (offer X i) = offer X i l := by
    rcases hmem with e | ⟨l, -, e⟩
    · rw [e] at h₀
      exact absurd h₀ (by simp only [BitVec.toNat_ofNat]; omega)
    · exact ⟨l, e⟩
  have hatt : finalV X (ix2 i l) = top X (ix1 i) := by
    by_contra hne
    rw [hl, hoff l, if_neg hne] at h₀
    exact absurd h₀ (by simp only [BitVec.toNat_ofNat]; omega)
  rw [hl] at hmin
  rw [hl]
  have hval : (offer X i l).toNat = 128 * (finalQ X (ix2 i l)).toNat + l.val := by rw [hoff l, if_pos hatt, hnum]
  rw [hval] at hmin ⊢
  have h := best_of_lanes y (fun a => if h : a < 128 then (finalQ X (ix2 i ⟨a, h⟩)).toNat else 0)
    (fun a ha => by
      simp only [dif_pos ha]
      exact (hfin ⟨a, ha⟩).1) l.val l.isLt
    (fun a ha => by
      simp only [dif_pos ha, dif_pos l.isLt]
      have := hle ⟨a, ha⟩
      rw [← hatt, (hfin ⟨a, ha⟩).2, (hfin l).2] at this
      exact EReal.coe_le_coe_iff.1 this)
    (fun a ha e => by
      simp only [dif_pos ha, dif_pos l.isLt] at e ⊢
      have hat : finalV X (ix2 i ⟨a, ha⟩) = top X (ix1 i) := by
        rw [← hatt, (hfin ⟨a, ha⟩).2, (hfin l).2]
        exact congrArg _ e
      have := hmin ⟨a, ha⟩ (Finset.mem_univ _)
      rw [hoff, if_pos hat, hnum] at this
      exact this)
  simpa only [dif_pos l.isLt] using h

/-! ## The log-probability -/

theorem lp_at (hX : IsRow X i y) (G : Vec Ideal S16x1 .f32) (g : ℝ) (hG : G (ix2 i 0) = (g : EReal)) :
    lpBlk X G (ix2 i 0) = ((g - lse 100000 y : ℝ) : EReal) := by
  unfold lpBlk k1_pay9
  set S : FVec Ideal S16x128 .f32 := addf (st X k1_t1_loop.trips).2.2 (exp (subf (k1_pay7 (tail X)) (broadcast S16x128 (Scalar.ofBits .f32 0x41A00000#32)))) with hS
  have hlane (l : Fin 128) : S (ix2 i l) = ((∑ q ∈ Finset.range (cnt l.val), Real.exp (y (128 * q + l.val) - 20) : ℝ) : EReal) := by
    show (st X k1_t1_loop.trips).2.2 (ix2 i l) + Ideal.exp (k1_pay7 (tail X) (ix2 i l) - Ideal.ofBits .f32 0x41A00000#32) = _
    rw [trips_eq, (state_at hX l 781 le_rfl).2, twenty]
    by_cases hl : l.val < 32
    · rw [pad_left hX l hl, ← EReal.coe_sub, Ideal.exp_coe, ← EReal.coe_add, show cnt l.val = 781 + 1 from if_pos hl, Finset.sum_range_succ _ 781]
    · rw [pad_right l hl, EReal.bot_sub, Ideal.exp_bot, add_zero, show cnt l.val = 781 from if_neg hl]
  have hsum : (multiReduction .add [1] S16 S 0x00000000#32 reduces_S16x128_S16 (.inl rfl) rfl : FVec Ideal S16 .f32) (ix1 i)
      = ((∑ j ∈ Finset.range 100000, Real.exp (y j - 20) : ℝ) : EReal) := by
    have e := Ideal.multiReduction_add_single S 0x00000000#32 reduces_S16x128_S16 (.inl rfl) rfl (ix1 i)
    refine e.trans ?_
    rw [← sum_lanes fun j => Real.exp (y j - 20), ← Fin.sum_univ_eq_sum_range (fun l => ∑ k ∈ Finset.range (cnt l), Real.exp (y (128 * k + l) - 20)) 128, coe_sum]
    exact Finset.sum_congr rfl fun l _ => (congrArg S (lift_eq i l)).trans (hlane l)
  have hpos : 0 < ∑ j ∈ Finset.range 100000, Real.exp (y j - 20) := sum_exp_pos (by decide) fun j => y j - 20
  have h1 : shapeCast S16x1 (multiReduction .add [1] S16 S 0x00000000#32 reduces_S16x128_S16 (.inl rfl) rfl : FVec Ideal S16 .f32) shapeCasts_S16_S16x1 (ix2 i 0)
      = ((∑ j ∈ Finset.range 100000, Real.exp (y j - 20) : ℝ) : EReal) :=
    (shapeCast_apply _ _ (ix2 i 0) (ix1 i) (by simp [Shape.rowMajor_val_one, Shape.rowMajor_val_two])).trans hsum
  have h2 : shapeCast S16x1 G shapeCasts_S16x1_S16x1 (ix2 i 0) = (g : EReal) := (congrFun (shapeCast_self G _) _).trans hG
  show shapeCast S16x1 G shapeCasts_S16x1_S16x1 (ix2 i 0)
    - (Ideal.log (shapeCast S16x1 (multiReduction .add [1] S16 S 0x00000000#32 reduces_S16x128_S16 (.inl rfl) rfl : FVec Ideal S16 .f32) shapeCasts_S16_S16x1 (ix2 i 0))
      + Ideal.ofBits .f32 0x41A00000#32) = _
  rw [h1, h2, Ideal.log_coe, if_neg (not_le.2 hpos), twenty, ← EReal.coe_add, ← EReal.coe_sub, lse_shift (by decide)]

end Cert.Proof.Block
-- ==== Proof.RefValue.lean ====
/-
  The reference's two results at the ideal values, one row at a time: the normalised logit that the action names, and the
  first largest column.
-/
module

public import proofs.«01_k».proof.Proof.Reference
public import proofs.«01_k».proof.Proof.Math
public import Idealize.ShloMosaic.PureOps.Ideal.Laws
public import Idealize.ShloMosaic.Lib.Pipeline.Value
public import Idealize.ShloMosaic.Lib.ReduceAll
public import Idealize.ShloMosaic.Lib.ValueIdx

@[expose] public section

noncomputable section

namespace Cert.Proof.RefValue

open Cert.ReferenceIdeal Cert.ReferenceIdeal.Gen Cert.Proof.Ref Cert.Proof.Math
open Idealize.ShloMosaic Idealize.ShloMosaic.ValueIdx

theorem neg_inf : Ideal.ofBits .f32 0xFF800000#32 = ⊥ := by simp [Ideal.ofBits, Ideal.ieee]
theorem zero_f32 : Ideal.ofBits .f32 0x00000000#32 = 0 := by simp [Ideal.ofBits, Ideal.ieee]

variable {X : FVec Ideal S128x100000 .f32} {r : Fin 128} {y : ℕ → ℝ}

/-- Row `r` of the array is `y`. -/
def IsRow (X : FVec Ideal S128x100000 .f32) (r : Fin 128) (y : ℕ → ℝ) : Prop :=
  ∀ j (h : j < 100000), X (ix2 r ⟨j, h⟩) = ((y j : ℝ) : EReal)

theorem IsRow.at (hX : IsRow X r y) (j : Fin 100000) : X (ix2 r j) = ((y j.val : ℝ) : EReal) := hX j.val j.isLt

theorem reduces_row : S128x100000.Reduces [1] S128 := by decide

theorem lift_row (r : Fin 128) (j : Fin 100000) : reduces_row.lift (ix1 r) j = ix2 r j := by
  funext a; fin_cases a <;> rfl

/-! ## The normalised logits -/

/-- The row's maximum is one of its entries. -/
theorem rowMax_at (hX : IsRow X r y) : ∃ M : ℝ, rowMax X (ix1 r) = (M : EReal) := by
  have e : rowMax X (ix1 r) = (Finset.univ : Finset (Fin 100000)).fold max (Ideal.ofBits .f32 0xFF800000#32) (X ∘ reduces_row.lift (ix1 r)) :=
    Host.reduce_eq_fold_single (FloatOps.maximumf (F := Ideal) (φ := .f32)) X (constant S_ .f32 0xFF800000#32) reducesTo_S128x100000_S128_d1 reduces_row h_S_ (ix1 r)
  rw [neg_inf] at e
  haveI : Nonempty (Fin 100000) := ⟨⟨0, by decide⟩⟩
  obtain ⟨⟨j, hj⟩, -⟩ := fold_max_spec (ι := Fin 100000) (X ∘ reduces_row.lift (ix1 r))
  exact ⟨y j.val, e.trans (hj.trans ((congrArg X (lift_row r j)).trans (hX.at j)))⟩

theorem col_at {α : Type} (v : S128.Idx → α) (r : Fin 128) : broadcastInDim S128x1 ![0] bcast_S128_S128x1_0 v (ix2 r 0) = v (ix1 r) :=
  broadcastInDim_apply _ _ _ _ _ fun a => by fin_cases a; rfl

theorem wide_at {α : Type} (v : S128x1.Idx → α) (r : Fin 128) (j : Fin 100000) :
    broadcastInDim S128x100000 ![0, 1] bcast_S128x1_S128x100000_0_1 v (ix2 r j) = v (ix2 r 0) :=
  broadcastInDim_apply _ _ _ _ _ fun a => by fin_cases a <;> rfl

theorem sum_real (n : ℕ) (f : ℕ → ℝ) (E : Fin n → EReal) (h : ∀ j, E j = ((f j.val : ℝ) : EReal)) :
    ∑ j, E j = ((∑ j ∈ Finset.range n, f j : ℝ) : EReal) := by
  rw [← Fin.sum_univ_eq_sum_range f n, coe_sum]
  exact Finset.sum_congr rfl fun j _ => h j

theorem expSum_at (hX : IsRow X r y) {M : ℝ} (hM : rowMax X (ix1 r) = (M : EReal)) :
    expSum X (ix1 r) = ((∑ j ∈ Finset.range 100000, Real.exp (y j - M) : ℝ) : EReal) := by
  set E : FVec Ideal S128x100000 .f32 := Host.exp (subf X (broadcastInDim S128x100000 ![0, 1] bcast_S128x1_S128x100000_0_1 (maxCol X))) with hE
  have hat (j : Fin 100000) : E (ix2 r j) = ((Real.exp (y j.val - M) : ℝ) : EReal) := by
    show Ideal.exp (X (ix2 r j) - broadcastInDim S128x100000 ![0, 1] bcast_S128x1_S128x100000_0_1 (maxCol X) (ix2 r j)) = _
    rw [wide_at, maxCol, col_at, hM, hX.at, ← EReal.coe_sub, Ideal.exp_coe]
  have e : expSum X (ix1 r) = Ideal.ofBits .f32 0x00000000#32 + ∑ j : Fin 100000, E (reduces_row.lift (ix1 r) j) :=
    Ideal.hostReduceAdd_single reducesTo_S128x100000_S128_d1 reduces_row E _ (ix1 r)
  rw [zero_f32, zero_add] at e
  exact e.trans (sum_real 100000 (fun j => Real.exp (y j - M)) _ fun j => (congrArg E (lift_row r j)).trans (hat j))

theorem log_sum (n : ℕ) (hn : 0 < n) (y : ℕ → ℝ) (M : ℝ) :
    Ideal.log ((∑ j ∈ Finset.range n, Real.exp (y j - M) : ℝ) : EReal) + (M : EReal) = ((lse n y : ℝ) : EReal) := by
  rw [Ideal.log_coe, if_neg (not_le.2 (sum_exp_pos hn fun j => y j - M)), ← EReal.coe_add, lse_shift hn]

theorem log_add_at (u v : FVec Ideal S128x1 .f32) (i : S128x1.Idx) : addf (Host.log u) v i = Ideal.log (u i) + v i := rfl

theorem norm_at (hX : IsRow X r y) : IsRow (norm X) r fun j => y j - lse 100000 y := by
  intro j hj
  obtain ⟨M, hM⟩ := rowMax_at hX
  show X (ix2 r ⟨j, hj⟩) - broadcastInDim S128x100000 ![0, 1] bcast_S128x1_S128x100000_0_1 (lseCol X) (ix2 r ⟨j, hj⟩) = _
  have hl : lseCol X (ix2 r 0) = ((lse 100000 y : ℝ) : EReal) := by
    have e0 := log_add_at (broadcastInDim S128x1 ![0] bcast_S128_S128x1_0 (expSum X)) (maxCol X) (ix2 r 0)
    have e1 := (col_at (expSum X) r).trans (expSum_at hX hM)
    have e2 : maxCol X (ix2 r 0) = (M : EReal) := (col_at (rowMax X) r).trans hM
    exact e0.trans <| (congrArg₂ (fun a b : EReal => Ideal.log a + b) e1 e2).trans (log_sum 100000 (Nat.succ_pos 99999) y M)
  rw [wide_at, hl, hX j hj, ← EReal.coe_sub]

/-! ## The gather -/

variable {N : FVec Ideal S128x100000 .f32} {A : IVec S128x1 32}

/-- The gather's index of row `r`. -/
abbrev at3 (r : Fin 128) : S128x1x1.Idx := ix3 r 0 0

theorem idx_at (h : (A (ix2 r 0)).toNat < 100000) : idx A (at3 r) = A (ix2 r 0) := by
  unfold idx
  refine (shapeCast_apply _ _ (at3 r) (ix2 r 0) (by simp [Shape.rowMajor_val_two, Shape.rowMajor_val_three])).trans ?_
  have hneg : (A (ix2 r 0)).slt 0#32 = false := by
    rw [BitVec.slt_eq_decide, toInt_of_small (by omega)]
    exact decide_eq_false (by simp)
  show Scalar.select (BitVec.ofBool ((A (ix2 r 0)).slt 0#32)) _ (A (ix2 r 0)) = _
  rw [hneg]
  rfl

theorem eq_at3 (i : S128x1x1.Idx) : i = at3 (i 0) := by
  funext a
  refine Fin.ext ?_
  match a with
  | ⟨0, _⟩ => rfl
  | ⟨1, _⟩ => exact Nat.lt_one_iff.1 (i 1).isLt
  | ⟨2, _⟩ => exact Nat.lt_one_iff.1 (i 2).isLt

theorem inside_at (h : ∀ j, (A j).toNat < 100000) (r : Fin 128) : inside (idx A) (ix2 r 0) = 1#1 := by
  refine Host.reduce_andi_one _ _ _ _ _ rfl fun i => ?_
  have hs : (idx A i).toNat < 100000 := by
    have e : idx A i = A (ix2 (i 0) 0) := (congrArg (idx A) (eq_at3 i)).trans (idx_at (h _))
    rw [e]; exact h _
  show IntOp.andi (BitVec.ofBool ((0#32).sle (idx A i))) (BitVec.ofBool ((idx A i).sle 99999#32)) = 1#1
  rw [BitVec.sle_eq_decide, BitVec.sle_eq_decide, toInt_of_small (v := idx A i) (by omega)]
  have e1 : ((0#32 : BitVec 32).toInt ≤ ((idx A i).toNat : ℤ)) := by simp
  have e2 : (((idx A i).toNat : ℤ) ≤ (99999#32 : BitVec 32).toInt) := by
    rw [toInt_of_small (by decide)]; simp only [BitVec.toNat_ofNat]; omega
  rw [decide_eq_true e1, decide_eq_true e2]
  rfl

theorem gather_at (I : IVec S128x1x1 32) (h : (I (at3 r)).toNat < 100000) :
    Host.gather gather_S128x100000_S128x1x1_S128x1_n_1_0_0_1_2_11 N I (ix2 r 0) = N (ix2 r ⟨(I (at3 r)).toNat, h⟩) := by
  unfold Host.gather
  refine congrArg N (funext fun a => Fin.ext ?_)
  show (gather_S128x100000_S128x1x1_S128x1_n_1_0_0_1_2_11).start (ix2 r 0) I a + (gather_S128x100000_S128x1x1_S128x1_n_1_0_0_1_2_11).batchCoord (ix2 r 0) a
    + (gather_S128x100000_S128x1x1_S128x1_n_1_0_0_1_2_11).offCoord (ix2 r 0) a = _
  match a with
  | ⟨0, _⟩ =>
    rw [GatherDims.start_batching _ _ _ _ (List.mem_singleton.2 rfl),
      GatherDims.offCoord_eq_zero _ _ _ fun hm => ((GatherDims.mem_sKept _ _).1 hm).2 (List.mem_singleton.2 rfl)]
    unfold GatherDims.batchCoord
    rw [dif_pos (show (⟨0, _⟩ : Fin S128x100000.rank) ∈ (gather_S128x100000_S128x1x1_S128x1_n_1_0_0_1_2_11).operandBatchingDims from List.mem_singleton.2 rfl)]
    exact Nat.zero_add _
  | ⟨1, _⟩ =>
    rw [GatherDims.batchCoord_eq_zero _ _ _ fun hm => by simp [gather_S128x100000_S128x1x1_S128x1_n_1_0_0_1_2_11] at hm,
      GatherDims.offCoord_eq_zero _ _ _ fun hm => ((GatherDims.mem_sKept _ _).1 hm).1 (List.mem_singleton.2 rfl)]
    unfold GatherDims.start
    rw [dif_pos (show (⟨1, _⟩ : Fin S128x100000.rank) ∈ (gather_S128x100000_S128x1x1_S128x1_n_1_0_0_1_2_11).startIndexMap from List.mem_singleton.2 rfl)]
    have hi : ∀ k, (gather_S128x100000_S128x1x1_S128x1_n_1_0_0_1_2_11).siIdx (ix2 r 0) k = at3 r := fun k => by
      funext b
      refine Fin.ext ?_
      match b with
      | ⟨0, _⟩ => rfl
      | ⟨1, _⟩ => rfl
      | ⟨2, _⟩ => exact Nat.lt_one_iff.1 (Fin.isLt _)
    rw [hi, toInt_of_small (by omega), Int.toNat_natCast]
    show min (I (at3 r)).toNat 99999 + 0 + 0 = (I (at3 r)).toNat
    omega

theorem take_at (h : ∀ j, (A j).toNat < 100000) (r : Fin 128) : take N A (ix2 r 0) = N (ix2 r ⟨(A (ix2 r 0)).toNat, h _⟩) := by
  show Scalar.select (inside (idx A) (ix2 r 0)) (Host.gather gather_S128x100000_S128x1x1_S128x1_n_1_0_0_1_2_11 N (idx A) (ix2 r 0)) _ = _
  have e := idx_at (h (ix2 r 0))
  rw [inside_at h, gather_at (idx A) (by rw [e]; exact h _)]
  simp only [e]
  rfl

/-! ## The mode -/

/-- The reducer of the arg-max: the larger value, and the smaller index between equals. -/
theorem reducer_eq (a b : EReal × BitVec 32) : reducer_argmax_f32_i32 (F := Ideal) a b
    = if b.1 < a.1 then a else if a.1 = b.1 ∧ a.2.slt b.2 = true then a else b := by
  obtain ⟨a1, a2⟩ := a
  obtain ⟨b1, b2⟩ := b
  show (Scalar.select (IntOp.ori (Ideal.cmp .ogt a1 b1) (Ideal.cmp .une a1 a1)) a1 b1,
    Scalar.select (IntOp.ori (IntOp.ori (Ideal.cmp .ogt a1 b1) (Ideal.cmp .une a1 a1)) (IntOp.andi (Ideal.cmp .oeq a1 b1) (IntOp.cmpi .slt a2 b2))) a2 b2) = _
  by_cases h1 : b1 < a1
  · have hc : IntOp.ori (Ideal.cmp .ogt a1 b1) (Ideal.cmp .une a1 a1) = 1#1 := by simp [Ideal.cmp, h1, IntOp.ori]
    have h1' : ∀ c : BitVec 1, IntOp.ori 1#1 c = 1#1 := by decide
    rw [hc, h1', if_pos h1]
    rfl
  · by_cases h2 : a1 = b1
    · subst h2
      by_cases h3 : a2.slt b2 = true <;> simp [Ideal.cmp, Scalar.select, IntOp.ori, IntOp.andi, IntOp.cmpi, h3]
    · simp [Ideal.cmp, h1, h2, Scalar.select, IntOp.ori, IntOp.andi]

/-- A fold of the reducer ends in the first pair or one of the list's, and no pair is better. -/
theorem fold_spec (l : List (EReal × BitVec 32)) : ∀ a : EReal × BitVec 32, a.2.toNat < 2147483648 → (∀ p ∈ l, p.2.toNat < 2147483648) →
    (l.foldl (reducer_argmax_f32_i32 (F := Ideal)) a ∈ a :: l)
      ∧ ∀ p ∈ a :: l, p.1 < (l.foldl (reducer_argmax_f32_i32 (F := Ideal)) a).1
        ∨ (p.1 = (l.foldl (reducer_argmax_f32_i32 (F := Ideal)) a).1 ∧ (l.foldl (reducer_argmax_f32_i32 (F := Ideal)) a).2.toNat ≤ p.2.toNat) := by
  induction l with
  | nil =>
    intro a _ _
    refine ⟨List.mem_singleton.2 rfl, fun p hp => ?_⟩
    rw [List.mem_singleton.1 hp]
    exact .inr ⟨rfl, le_rfl⟩
  | cons b l ih =>
    intro a ha hl
    have hb := hl b List.mem_cons_self
    have hl' : ∀ p ∈ l, p.2.toNat < 2147483648 := fun p hp => hl p (List.mem_cons_of_mem _ hp)
    rw [List.foldl_cons, reducer_eq]
    have hslt : (a.2.slt b.2 = true) = (a.2.toNat < b.2.toNat) := by
      rw [BitVec.slt_eq_decide, toInt_of_small ha, toInt_of_small hb]
      simp
    simp only [hslt]
    -- the pair that stays is one of the two, and is at least as good as both
    have step : ∀ c : EReal × BitVec 32, (c = a ∨ c = b) → c.2.toNat < 2147483648
        → (∀ p, p = a ∨ p = b → p.1 < c.1 ∨ (p.1 = c.1 ∧ c.2.toNat ≤ p.2.toNat))
        → (l.foldl (reducer_argmax_f32_i32 (F := Ideal)) c ∈ a :: b :: l)
          ∧ ∀ p ∈ a :: b :: l, p.1 < (l.foldl (reducer_argmax_f32_i32 (F := Ideal)) c).1
            ∨ (p.1 = (l.foldl (reducer_argmax_f32_i32 (F := Ideal)) c).1 ∧ (l.foldl (reducer_argmax_f32_i32 (F := Ideal)) c).2.toNat ≤ p.2.toNat) := by
      intro c hc hs hbest
      obtain ⟨hm, hg⟩ := ih c hs hl'
      refine ⟨?_, fun p hp => ?_⟩
      · rcases List.mem_cons.1 hm with e | e
        · rw [e]
          rcases hc with rfl | rfl
          · exact List.mem_cons_self
          · exact List.mem_cons_of_mem _ List.mem_cons_self
        · exact List.mem_cons_of_mem _ (List.mem_cons_of_mem _ e)
      · have hcase : (p = a ∨ p = b) ∨ p ∈ l := by
          rcases List.mem_cons.1 hp with e | e
          · exact .inl (.inl e)
          · rcases List.mem_cons.1 e with e | e
            · exact .inl (.inr e)
            · exact .inr e
        rcases hcase with e | e
        · have h1 := hbest p e
          have h2 := hg c List.mem_cons_self
          rcases h1 with h1 | ⟨h1, h1'⟩ <;> rcases h2 with h2 | ⟨h2, h2'⟩
          · exact .inl (h1.trans h2)
          · exact .inl (h1.trans_eq h2)
          · exact .inl (h1.trans_lt h2)
          · exact .inr ⟨h1.trans h2, h2'.trans h1'⟩
        · exact hg p (List.mem_cons_of_mem _ e)
    split
    · next hlt =>
      refine step a (.inl rfl) ha fun p hp => ?_
      rcases hp with rfl | rfl
      · exact .inr ⟨rfl, le_rfl⟩
      · exact .inl hlt
    · next hlt =>
      split
      · next he =>
        refine step a (.inl rfl) ha fun p hp => ?_
        rcases hp with rfl | rfl
        · exact .inr ⟨rfl, le_rfl⟩
        · exact .inr ⟨he.1.symm, he.2.le⟩
      · next he =>
        refine step b (.inr rfl) hb fun p hp => ?_
        rcases hp with rfl | rfl
        · rcases (not_lt.1 hlt).lt_or_eq with h | h
          · exact .inl h
          · exact .inr ⟨h, not_lt.1 fun hh => he ⟨h, hh⟩⟩
        · exact .inr ⟨rfl, le_rfl⟩

theorem mem_fiber {α β : Type} (x : S128x100000.Idx → α) (z : S128x100000.Idx → β) (r : Fin 128) (p : α × β) :
    p ∈ Host.argReduceFiber x z reducesTo_S128x100000_S128_d1 (ix1 r) ↔ ∃ j : Fin 100000, p = (x (ix2 r j), z (ix2 r j)) := by
  unfold Host.argReduceFiber
  simp only [List.mem_map, List.mem_filter, List.mem_finRange, true_and, decide_eq_true_eq]
  constructor
  · rintro ⟨n, hn, rfl⟩
    have h0 : S128x100000.rowMajor.symm n 0 = r := congrFun hn 0
    exact ⟨S128x100000.rowMajor.symm n 1, congrArg (fun i => (x i, z i))
      ((eq_ix2 (S128x100000.rowMajor.symm n)).trans (congrArg (fun a => ix2 a (S128x100000.rowMajor.symm n 1)) h0))⟩
  · rintro ⟨j, rfl⟩
    refine ⟨S128x100000.rowMajor (ix2 r j), ?_, ?_⟩
    · rw [Equiv.symm_apply_apply]
      funext a; fin_cases a; rfl
    · rw [Equiv.symm_apply_apply]

theorem mode_at (hN : IsRow N r y) : Best 100000 y (mode N (ix2 r 0)).toNat := by
  have e : mode N (ix2 r 0) = ((Host.argReduceFiber (Host.exp N) (iotaInDim S128x100000 32 1) reducesTo_S128x100000_S128_d1 (ix1 r)).foldl
      (reducer_argmax_f32_i32 (F := Ideal)) (Ideal.ofBits .f32 0xFF800000#32, 0#32)).2 := by
    unfold mode
    rw [col_at, Ideal.argReduce_eq_reduce2, Host.reduce2_eq_foldl_fiber]
    rfl
  have hexp (j : Fin 100000) : Host.exp N (ix2 r j) = ((Real.exp (y j.val) : ℝ) : EReal) := by
    show Ideal.exp (N (ix2 r j)) = _
    rw [hN.at, Ideal.exp_coe]
  have hiota (j : Fin 100000) : iotaInDim S128x100000 32 1 (ix2 r j) = BitVec.ofNat 32 j.val := rfl
  have hnat (j : Fin 100000) : (BitVec.ofNat 32 j.val).toNat = j.val := by
    have := j.isLt
    rw [BitVec.toNat_ofNat]; omega
  have hpair (p : EReal × BitVec 32) : p ∈ Host.argReduceFiber (Host.exp N) (iotaInDim S128x100000 32 1) reducesTo_S128x100000_S128_d1 (ix1 r)
      ↔ ∃ j : Fin 100000, p = (((Real.exp (y j.val) : ℝ) : EReal), BitVec.ofNat 32 j.val) := by
    refine (mem_fiber (Host.exp N) (iotaInDim S128x100000 32 1) r p).trans ?_
    simp only [hexp, hiota]
  rw [e, neg_inf]
  generalize Host.argReduceFiber (Host.exp N) (iotaInDim S128x100000 32 1) reducesTo_S128x100000_S128_d1 (ix1 r) = l at hpair
  obtain ⟨hm, hg⟩ := fold_spec l ((⊥ : EReal), 0#32) (by decide) fun p hp => by
    obtain ⟨j, rfl⟩ := (hpair p).1 hp
    have := j.isLt
    rw [hnat]; omega
  have h₀ := hg _ (List.mem_cons_of_mem _ ((hpair _).2 ⟨⟨0, by decide⟩, rfl⟩))
  generalize l.foldl (reducer_argmax_f32_i32 (F := Ideal)) ((⊥ : EReal), 0#32) = q at hm hg h₀
  rcases List.mem_cons.1 hm with rfl | hm
  · rcases h₀ with h | ⟨h, -⟩
    · exact absurd h not_lt_bot
    · exact absurd h (EReal.coe_ne_bot _)
  · obtain ⟨J, rfl⟩ := (hpair q).1 hm
    rw [hnat]
    refine ⟨J.isLt, fun j hj => ?_⟩
    have := hg _ (List.mem_cons_of_mem _ ((hpair _).2 ⟨⟨j, hj⟩, rfl⟩))
    have hj' : (BitVec.ofNat 32 j).toNat = j := hnat ⟨j, hj⟩
    simp only [hj', hnat J, EReal.coe_lt_coe_iff, EReal.coe_eq_coe_iff, Real.exp_lt_exp, Real.exp_eq_exp] at this
    exact this

/-! ## Both results -/

theorem lp_at (hX : IsRow X r y) (h : ∀ j, (A j).toNat < 100000) :
    take (norm X) A (ix2 r 0) = ((y (A (ix2 r 0)).toNat - lse 100000 y : ℝ) : EReal) :=
  (take_at h r).trans (norm_at hX _ _)

theorem mo_best (hX : IsRow X r y) : Best 100000 y (mode (norm X) (ix2 r 0)).toNat :=
  (mode_at (norm_at hX)).of_map (fun i j h => by simpa using h) fun i j h => by simpa using h

end Cert.Proof.RefValue
-- ==== Proof.Value.lean ====
/-
  The kernel's two results at the ideal values are the reference's, for finite logits and actions in range.
-/
module

public import proofs.«01_k».proof.Proof.Finite
public import proofs.«01_k».proof.Proof.Main
public import proofs.«01_k».proof.Proof.Block
public import proofs.«01_k».proof.Proof.RefValue
public import Idealize.ShloMosaic.Lib.Pipeline.ValueKit

@[expose] public section

set_option maxRecDepth 16384

noncomputable section

namespace Cert.Proof.Value

open Cert.KernelIdeal Cert.KernelIdeal.Gen Cert.Proof.Run Cert.Proof.Math
open Idealize.ShloMosaic hiding ix1 ix2 ix3 eq_ix2
open Idealize.ShloMosaic.ValueIdx Idealize.SL.Sem
open Idealize.ShloMosaic.Pipeline (Dat)

variable (m : (ℓ : Loc nD τ sig) → Buf (Elt Ideal) ℓ) (c : Dev nD)

/-- The arguments as the launch memory holds them. -/
abbrev X : FVec Ideal S128x100000 .f32 := m (xLoc c)
abbrev A : IVec S128x1 32 := m (aLoc c)

/-! ## The blocks at coordinates -/

theorem idx0 : ∀ t : Fin grid1.N, win1_0.index t 0 = t.val ∧ win1_0.index t 1 = 0 := by decide +kernel
theorem idx1 : ∀ t : Fin grid1.N, win1_1.index t 0 = t.val ∧ win1_1.index t 1 = 0 := by decide +kernel
theorem idx2 : ∀ t : Fin grid1.N, win1_2.index t 0 = t.val ∧ win1_2.index t 1 = 0 := by decide +kernel
theorem idx3 : ∀ t : Fin grid1.N, win1_3.index t 0 = t.val ∧ win1_3.index t 1 = 0 := by decide +kernel

/-- Row `i` of point `t`'s block, among the rows of the array. -/
def row (t : Fin grid1.N) (i : Fin 16) : Fin 128 := ⟨t.val * 16 + i.val, by have := t.isLt; have := N_1; have := i.isLt; omega⟩

theorem xBlk_at (t : Fin grid1.N) (i : Fin 16) (j : Fin 100000) : xBlk m c t (ix2 i j) = X m c (ix2 (row t i) j) := by
  unfold xBlk
  refine congrArg (X m c) (funext fun a => Fin.ext ?_)
  have e := idx0 t
  match a with
  | ⟨0, _⟩ => blk_simp [e.1, e.2]; rfl
  | ⟨1, _⟩ => blk_simp [e.1, e.2]

theorem gBlk_at (t : Fin grid1.N) (i : Fin 16) : gBlk m c t (ix2 i 0) = gcOf m c (ix2 (row t i) 0) := by
  unfold gBlk
  refine congrArg (gcOf m c) (funext fun a => Fin.ext ?_)
  have e := idx1 t
  match a with
  | ⟨0, _⟩ => blk_simp [e.1, e.2]; rfl
  | ⟨1, _⟩ => blk_simp [e.1, e.2]

/-! ## The gathered logits -/

theorem gcOf_at (h : ∀ j, (A m c j).toNat < 100000) (r : Fin 128) :
    gcOf m c (ix2 r 0) = X m c (ix2 r ⟨(A m c (ix2 r 0)).toNat, h _⟩) := by
  have hr := r.isLt
  have ha := h (ix2 r 0)
  unfold gcOf
  refine (shapeCast_apply _ _ (ix2 r 0) (ix1 r) (by simp [Shape.rowMajor_val_one, Shape.rowMajor_val_two])).trans ?_
  have hact : actOf m c (ix1 r) = A m c (ix2 r 0) :=
    shapeCast_apply _ _ (ix1 r) (ix2 r 0) (by simp [Shape.rowMajor_val_one, Shape.rowMajor_val_two])
  unfold gOf gOut tabOf
  refine shapeCast_apply _ _ _ (ix2 r ⟨(A m c (ix2 r 0)).toNat, h _⟩) ?_
  rw [Shape.rowMajor_val_one, Shape.rowMajor_val_two]
  show r.val * 100000 + (A m c (ix2 r 0)).toNat = (r.val * 100000 + (actOf m c (ix1 r)).toNat) % 12800000
  rw [hact, Nat.mod_eq_of_lt (by omega)]

/-! ## The results -/

/-- The rows' entries as real numbers. -/
def reals (r : Fin 128) (j : ℕ) : ℝ := if h : j < 100000 then (X m c (ix2 r ⟨j, h⟩)).toReal else 0

theorem isRow (hX : ∀ i, X m c i ≠ ⊤ ∧ X m c i ≠ ⊥) (r : Fin 128) : RefValue.IsRow (X m c) r (reals m c r) := by
  intro j h
  unfold reals
  rw [dif_pos h]
  exact (EReal.coe_toReal (hX _).1 (hX _).2).symm

theorem isRow_blk (hX : ∀ i, X m c i ≠ ⊤ ∧ X m c i ≠ ⊥) (t : Fin grid1.N) (i : Fin 16) :
    Block.IsRow (xBlk m c t) i (reals m c (row t i)) :=
  fun j h => (xBlk_at m c t i ⟨j, h⟩).trans (isRow m c hX (row t i) j h)

/-- A one-column array's index is its row. -/
theorem eq_col {n : ℕ} (y : (⟨2, ![n, 1]⟩ : Shape).Idx) : y = ix2 (y 0) 0 :=
  (eq_ix2 y).trans (congrArg (ix2 (y 0)) (Subsingleton.elim (α := Fin 1) _ _))

theorem emb2 (t : Fin grid1.N) (i : Fin 16) : (win1_2.blk t).view.emb (ix2 i 0 : S16x1.Idx) = (ix2 (row t i) 0 : S128x1.Idx) := by
  refine funext fun a => Fin.ext ?_
  have e := idx2 t
  match a with
  | ⟨0, _⟩ => blk_simp [e.1, e.2]; rfl
  | ⟨1, _⟩ => blk_simp [e.1, e.2]

theorem emb3 (t : Fin grid1.N) (i : Fin 16) : (win1_3.blk t).view.emb (ix2 i 0 : S16x1.Idx) = (ix2 (row t i) 0 : S128x1.Idx) := by
  refine funext fun a => Fin.ext ?_
  have e := idx3 t
  match a with
  | ⟨0, _⟩ => blk_simp [e.1, e.2]; rfl
  | ⟨1, _⟩ => blk_simp [e.1, e.2]

theorem lp_eq (hX : ∀ i, X m c i ≠ ⊤ ∧ X m c i ≠ ⊥) (hA : ∀ j, (A m c j).toNat < 100000) :
    lpFin m c = Ref.take (Ref.norm (X m c)) (A m c) := by
  unfold lpFin
  refine (dats m 0 c).arrAt_eq_of_covers 2 _ (by decide +kernel) fun t hf y => ?_
  blk_simp
  obtain ⟨i, rfl⟩ : ∃ i : Fin 16, y = (ix2 i 0 : S16x1.Idx) := ⟨y 0, eq_col (n := 16) y⟩
  have hg : gBlk m c t (ix2 i 0) = ((reals m c (row t i) (A m c (ix2 (row t i) 0)).toNat : ℝ) : EReal) :=
    ((gBlk_at m c t i).trans (gcOf_at m c hA (row t i))).trans (isRow m c hX (row t i) _ _)
  exact ((Block.lp_at (isRow_blk m c hX t i) (gBlk m c t) _ hg).trans (RefValue.lp_at (isRow m c hX (row t i)) hA).symm).trans
    (congrArg (Ref.take (Ref.norm (X m c)) (A m c)) (emb2 t i).symm)

theorem mo_eq (hX : ∀ i, X m c i ≠ ⊤ ∧ X m c i ≠ ⊥) : moFin m c = Ref.mode (Ref.norm (X m c)) := by
  unfold moFin
  refine (dats m 0 c).arrAt_eq_of_covers 3 _ (by decide +kernel) fun t hf y => ?_
  blk_simp
  obtain ⟨i, rfl⟩ : ∃ i : Fin 16, y = (ix2 i 0 : S16x1.Idx) := ⟨y 0, eq_col (n := 16) y⟩
  have e : moBlk (xBlk m c t) (ix2 i 0) = Ref.mode (Ref.norm (X m c)) (ix2 (row t i) 0) :=
    BitVec.eq_of_toNat_eq ((Block.mo_best (isRow_blk m c hX t i)).unique (RefValue.mo_best (isRow m c hX (row t i))))
  exact e.trans (congrArg (Ref.mode (Ref.norm (X m c))) (emb3 t i).symm)

/-! ## The two runs -/

theorem same_results : algebraic_KernelIdeal_ReferenceIdeal_pre_finite_logits := by
  intro m g m' g' hpre hin
  have hb := fun d => Frames.both_of_pre _ _ (hpre d)
  refine ⟨fun c => lpFin m c, fun c => moFin m c, ?_, ?_⟩
  · exact (θ_run _ _ _).mono (fun r h d => ⟨(h.1 d).2.2.1, (h.1 d).2.2.2, (h.1 d).1, (h.1 d).2.1⟩) (run_main m g (Frames.preOK_of_finite m hpre))
  · refine (θ_run _ _ _).mono (fun r h d => ?_) (Ref.run_ref m' g')
    have e0 := (hin d).1
    have e1 := (hin d).2
    refine ⟨?_, ?_, ?_, ?_⟩
    · refine ((h d _).trans (Ref.v11_eq _)).trans (Eq.trans ?_ (lp_eq m d (hb d).1 (hb d).2).symm)
      exact congrArg₂ (fun x a => Ref.take (Ref.norm x) a) e0 e1
    · refine ((h d _).trans (Ref.v14_eq _)).trans (Eq.trans ?_ (mo_eq m d (hb d).1).symm)
      exact congrArg (fun x => Ref.mode (Ref.norm x)) e0
    · exact (h d _).trans (Ref.arg0_eq _)
    · exact (h d _).trans (Ref.arg1_eq _)

end Cert.Proof.Value
-- ==== Proof.lean ====
/-
  The certificate's claim, assembled: the frames, and the kernel's results at the ideal values.
-/
module

public import proofs.«01_k».proof.Defs
public import proofs.«01_k».proof.Proof.Finite
public import proofs.«01_k».proof.Proof.Value
public import proofs.«01_k».proof.Proof.Gen.Pre_finite_logits

@[expose] public section

noncomputable section

namespace Cert.Proof

theorem claim : Cert.Claim :=
  ⟨Cert.Kernel.Gen.facts, Cert.KernelIdeal.Gen.facts, Cert.ReferenceIdeal.Gen.facts, Cert.Pre_actions_in_range.Gen.facts,
    Cert.Pre_finite_logits.Gen.facts, Frames.frame_kernel, Frames.frame_ideal, Frames.frame_ideal_finite, Frames.frame_ref, Frames.frame_ref_finite, trivial,
    Value.same_results⟩

end Cert.Proof

end
